-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_spread_KernelIdeal [hPre_spread_KernelIdeal : Cert.Pre_spread_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_spread_KernelIdeal.fn (F := Ideal) (m ((c.tc : Thread Cert.KernelIdeal.nD Cert.KernelIdeal.τ).loc Cert.KernelIdeal.main_arg0))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_spread_ReferenceIdeal [hPre_spread_ReferenceIdeal : Cert.Pre_spread_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_spread_ReferenceIdeal.fn (F := Ideal) (m ((c.tc : Thread Cert.ReferenceIdeal.nD Cert.ReferenceIdeal.τ).loc Cert.ReferenceIdeal.main_arg0))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_KernelIdeal_pre_spread_KernelIdeal [hKernelIdeal : Cert.KernelIdeal.Facts] [hPre_spread_KernelIdeal : Cert.Pre_spread_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_spread_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ReferenceIdeal_pre_spread_ReferenceIdeal [hReferenceIdeal : Cert.ReferenceIdeal.Facts] [hPre_spread_ReferenceIdeal : Cert.Pre_spread_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_spread_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal_pre_spread_KernelIdeal [hKernelIdeal : Cert.KernelIdeal.Facts] [hReferenceIdeal : Cert.ReferenceIdeal.Facts] [hPre_spread_KernelIdeal : Cert.Pre_spread_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_spread_KernelIdeal m →
    (∀ c : Dev Cert.KernelIdeal.nD,
      m ((c.tc : Thread Cert.KernelIdeal.nD Cert.KernelIdeal.τ).loc Cert.KernelIdeal.main_arg0) = Layout.blockN ⟨2, ![512, 4096]⟩ ⟨2, ![512, 8192]⟩ (Layout.meshBlock [2, 2] ![[], [1]] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v3) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_spread_KernelIdeal : Cert.Pre_spread_KernelIdeal.Facts) (hPre_spread_ReferenceIdeal : Cert.Pre_spread_ReferenceIdeal.Facts),
    quiescent_Kernel (hKernel := hKernel)
    ∧ quiescent_KernelIdeal (hKernelIdeal := hKernelIdeal)
    ∧ quiescent_KernelIdeal_pre_spread_KernelIdeal (hKernelIdeal := hKernelIdeal) (hPre_spread_KernelIdeal := hPre_spread_KernelIdeal)
    ∧ quiescent_ReferenceIdeal (hReferenceIdeal := hReferenceIdeal)
    ∧ quiescent_ReferenceIdeal_pre_spread_ReferenceIdeal (hReferenceIdeal := hReferenceIdeal) (hPre_spread_ReferenceIdeal := hPre_spread_ReferenceIdeal)
    ∧ preserves_Kernel_KernelIdeal
    ∧ algebraic_KernelIdeal_ReferenceIdeal_pre_spread_KernelIdeal (hKernelIdeal := hKernelIdeal) (hReferenceIdeal := hReferenceIdeal) (hPre_spread_KernelIdeal := hPre_spread_KernelIdeal)
-- ==== Pre_spread_KernelIdeal.lean ====
abbrev S512x4096 : Shape := ⟨2, ![512, 4096]⟩
abbrev S512x16 : Shape := ⟨2, ![512, 16]⟩
abbrev S_ : Shape := ⟨0, ![]⟩
abbrev S512x16x1 : Shape := ⟨3, ![512, 16, 1]⟩
abbrev S512x1x16 : Shape := ⟨3, ![512, 1, 16]⟩
abbrev S512x16x16 : Shape := ⟨3, ![512, 16, 16]⟩

class Facts : Prop where
  slices_S512x4096_S512x16_0_0 : S512x4096.Slices ![0, 0] S512x16
  bcast_S_S512x16 : S_.BroadcastsInDim S512x16 (![] : Fin 0 → Fin S512x16.rank)
  bcast_S512x16_S512x16x1_0_1 : S512x16.BroadcastsInDim S512x16x1 (![0, 1] : Fin 2 → Fin S512x16x1.rank)
  bcast_S512x16_S512x1x16_0_2 : S512x16.BroadcastsInDim S512x1x16 (![0, 2] : Fin 2 → Fin S512x1x16.rank)
  bcast_S512x16x1_S512x16x16_0_1_2 : S512x16x1.BroadcastsInDim S512x16x16 (![0, 1, 2] : Fin 3 → Fin S512x16x16.rank)
  bcast_S512x1x16_S512x16x16_0_1_2 : S512x1x16.BroadcastsInDim S512x16x16 (![0, 1, 2] : Fin 3 → Fin S512x16x16.rank)
  natLt_1_32 : 1 < 32
  reducesTo_S512x16x16_S512x16_d2 : S512x16x16.ReducesTo [2] S512x16
  h_S_ : 0 < S_.numel

variable [Facts]

variable {F : FTy → Type} [FloatOps F]
def comparator_f32_i32_d1 : F .f32 × BitVec 32 → F .f32 × BitVec 32 → BitVec 1 :=
  fun l r =>
    let cst := FloatOps.ofBits .f32 0x00000000#32
    let v2 := FloatOps.cmpf .oeq l.1 cst
    let cst_0 := FloatOps.ofBits .f32 0x00000000#32
    let v3 := Scalar.select v2 cst_0 l.1
    let v4 := FloatOps.cmpf .une l.1 l.1
    let cst_1 := FloatOps.ofBits .f32 0x7FC00000#32
    let v5 := Scalar.select v4 cst_1 v3
    let cst_2 := FloatOps.ofBits .f32 0x00000000#32
    let v6 := FloatOps.cmpf .oeq r.1 cst_2
    let cst_3 := FloatOps.ofBits .f32 0x00000000#32
    let v7 := Scalar.select v6 cst_3 r.1
    let v8 := FloatOps.cmpf .une r.1 r.1
    let cst_4 := FloatOps.ofBits .f32 0x7FC00000#32
    let v9 := Scalar.select v8 cst_4 v7
    let v10 := FloatOps.cmpfTotal .lt v5 v9
    v10

def fn_argsort {F : FTy → Type} [FloatOps F] (arg0 : FVec F S512x4096 .f32) : IVec S512x4096 32 :=
  let v0 : IVec S512x4096 32 := iotaInDim S512x4096 32 1
  let v1_0 : FVec F S512x4096 .f32 := (fun x y => (Host.sort2 S512x4096 1 comparator_f32_i32_d1 x y).1) arg0 v0
  let v1_1 : IVec S512x4096 32 := (fun x y => (Host.sort2 S512x4096 1 comparator_f32_i32_d1 x y).2) arg0 v0
  v1_1

def fn {F : FTy → Type} [FloatOps F] (main_arg0 : FVec F S512x4096 .f32) : IVec S512x16 1 :=
  let main_v0 : FVec F S512x4096 .f32 := Host.negf main_arg0
  let main_v1 : IVec S512x4096 32 := fn_argsort (F := F) main_v0
  let main_v2 : IVec S512x16 32 := (extractStridedSlice S512x16 ![0, 0] · slices_S512x4096_S512x16_0_0) main_v1
  let main_c : IVec S_ 32 := constantI S_ 32 128#32
  let main_v3 : IVec S512x16 32 := broadcastInDim S512x16 ![] bcast_S_S512x16 main_c
  let main_v4 : IVec S512x16 32 := Host.remsi main_v2 main_v3
  let main_v5 : IVec S512x16x1 32 := broadcastInDim S512x16x1 ![0, 1] bcast_S512x16_S512x16x1_0_1 main_v4
  let main_v6 : IVec S512x1x16 32 := broadcastInDim S512x1x16 ![0, 2] bcast_S512x16_S512x1x16_0_2 main_v4
  let main_v7 : IVec S512x16x16 32 := broadcastInDim S512x16x16 ![0, 1, 2] bcast_S512x16x1_S512x16x16_0_1_2 main_v5
  let main_v8 : IVec S512x16x16 32 := broadcastInDim S512x16x16 ![0, 1, 2] bcast_S512x1x16_S512x16x16_0_1_2 main_v6
  let main_v9 : IVec S512x16x16 1 := cmpi .eq main_v7 main_v8
  let main_v10 : IVec S512x16x16 32 := (extui 32 · natLt_1_32) main_v9
  let main_c_0 : IVec S_ 32 := constantI S_ 32 0#32
  let main_v11 : IVec S512x16 32 := (fun x v => Host.reduce IntOp.addi x v reducesTo_S512x16x16_S512x16_d2 h_S_) main_v10 main_c_0
  let main_c_1 : IVec S_ 32 := constantI S_ 32 3#32
  let main_v12 : IVec S512x16 32 := broadcastInDim S512x16 ![] bcast_S_S512x16 main_c_1
  let main_v13 : IVec S512x16 1 := cmpi .sle main_v11 main_v12
  main_v13
-- ==== Pre_spread_ReferenceIdeal.lean ====
abbrev S512x8192 : Shape := ⟨2, ![512, 8192]⟩
abbrev S512x16 : Shape := ⟨2, ![512, 16]⟩
abbrev S_ : Shape := ⟨0, ![]⟩
abbrev S512x16x1 : Shape := ⟨3, ![512, 16, 1]⟩
abbrev S512x1x16 : Shape := ⟨3, ![512, 1, 16]⟩
abbrev S512x16x16 : Shape := ⟨3, ![512, 16, 16]⟩

class Facts : Prop where
  slices_S512x8192_S512x16_0_0 : S512x8192.Slices ![0, 0] S512x16
  bcast_S_S512x16 : S_.BroadcastsInDim S512x16 (![] : Fin 0 → Fin S512x16.rank)
  bcast_S512x16_S512x16x1_0_1 : S512x16.BroadcastsInDim S512x16x1 (![0, 1] : Fin 2 → Fin S512x16x1.rank)
  bcast_S512x16_S512x1x16_0_2 : S512x16.BroadcastsInDim S512x1x16 (![0, 2] : Fin 2 → Fin S512x1x16.rank)
  bcast_S512x16x1_S512x16x16_0_1_2 : S512x16x1.BroadcastsInDim S512x16x16 (![0, 1, 2] : Fin 3 → Fin S512x16x16.rank)
  bcast_S512x1x16_S512x16x16_0_1_2 : S512x1x16.BroadcastsInDim S512x16x16 (![0, 1, 2] : Fin 3 → Fin S512x16x16.rank)
  natLt_1_32 : 1 < 32
  reducesTo_S512x16x16_S512x16_d2 : S512x16x16.ReducesTo [2] S512x16
  h_S_ : 0 < S_.numel

variable [Facts]

variable {F : FTy → Type} [FloatOps F]
def comparator_f32_i32_d1 : F .f32 × BitVec 32 → F .f32 × BitVec 32 → BitVec 1 :=
  fun l r =>
    let cst := FloatOps.ofBits .f32 0x00000000#32
    let v2 := FloatOps.cmpf .oeq l.1 cst
    let cst_0 := FloatOps.ofBits .f32 0x00000000#32
    let v3 := Scalar.select v2 cst_0 l.1
    let v4 := FloatOps.cmpf .une l.1 l.1
    let cst_1 := FloatOps.ofBits .f32 0x7FC00000#32
    let v5 := Scalar.select v4 cst_1 v3
    let cst_2 := FloatOps.ofBits .f32 0x00000000#32
    let v6 := FloatOps.cmpf .oeq r.1 cst_2
    let cst_3 := FloatOps.ofBits .f32 0x00000000#32
    let v7 := Scalar.select v6 cst_3 r.1
    let v8 := FloatOps.cmpf .une r.1 r.1
    let cst_4 := FloatOps.ofBits .f32 0x7FC00000#32
    let v9 := Scalar.select v8 cst_4 v7
    let v10 := FloatOps.cmpfTotal .lt v5 v9
    v10

def fn_argsort {F : FTy → Type} [FloatOps F] (arg0 : FVec F S512x8192 .f32) : IVec S512x8192 32 :=
  let v0 : IVec S512x8192 32 := iotaInDim S512x8192 32 1
  let v1_0 : FVec F S512x8192 .f32 := (fun x y => (Host.sort2 S512x8192 1 comparator_f32_i32_d1 x y).1) arg0 v0
  let v1_1 : IVec S512x8192 32 := (fun x y => (Host.sort2 S512x8192 1 comparator_f32_i32_d1 x y).2) arg0 v0
  v1_1

def fn {F : FTy → Type} [FloatOps F] (main_arg0 : FVec F S512x8192 .f32) : IVec S512x16 1 :=
  let main_v0 : FVec F S512x8192 .f32 := Host.negf main_arg0
  let main_v1 : IVec S512x8192 32 := fn_argsort (F := F) main_v0
  let main_v2 : IVec S512x16 32 := (extractStridedSlice S512x16 ![0, 0] · slices_S512x8192_S512x16_0_0) main_v1
  let main_c : IVec S_ 32 := constantI S_ 32 128#32
  let main_v3 : IVec S512x16 32 := broadcastInDim S512x16 ![] bcast_S_S512x16 main_c
  let main_v4 : IVec S512x16 32 := Host.remsi main_v2 main_v3
  let main_v5 : IVec S512x16x1 32 := broadcastInDim S512x16x1 ![0, 1] bcast_S512x16_S512x16x1_0_1 main_v4
  let main_v6 : IVec S512x1x16 32 := broadcastInDim S512x1x16 ![0, 2] bcast_S512x16_S512x1x16_0_2 main_v4
  let main_v7 : IVec S512x16x16 32 := broadcastInDim S512x16x16 ![0, 1, 2] bcast_S512x16x1_S512x16x16_0_1_2 main_v5
  let main_v8 : IVec S512x16x16 32 := broadcastInDim S512x16x16 ![0, 1, 2] bcast_S512x1x16_S512x16x16_0_1_2 main_v6
  let main_v9 : IVec S512x16x16 1 := cmpi .eq main_v7 main_v8
  let main_v10 : IVec S512x16x16 32 := (extui 32 · natLt_1_32) main_v9
  let main_c_0 : IVec S_ 32 := constantI S_ 32 0#32
  let main_v11 : IVec S512x16 32 := (fun x v => Host.reduce IntOp.addi x v reducesTo_S512x16x16_S512x16_d2 h_S_) main_v10 main_c_0
  let main_c_1 : IVec S_ 32 := constantI S_ 32 3#32
  let main_v12 : IVec S512x16 32 := broadcastInDim S512x16 ![] bcast_S_S512x16 main_c_1
  let main_v13 : IVec S512x16 1 := cmpi .sle main_v11 main_v12
  main_v13
-- ==== Kernel.lean ====
abbrev S512x4096 : Shape := ⟨2, ![512, 4096]⟩
abbrev S512x16 : Shape := ⟨2, ![512, 16]⟩
abbrev S16x512 : Shape := ⟨2, ![16, 512]⟩
abbrev S_ : Shape := ⟨0, ![]⟩
abbrev S512x2048 : Shape := ⟨2, ![512, 2048]⟩
abbrev S512x1024 : Shape := ⟨2, ![512, 1024]⟩
abbrev S512x512 : Shape := ⟨2, ![512, 512]⟩
abbrev S512x256 : Shape := ⟨2, ![512, 256]⟩
abbrev S512x128 : Shape := ⟨2, ![512, 128]⟩
abbrev S128x512 : Shape := ⟨2, ![128, 512]⟩
abbrev S64x512 : Shape := ⟨2, ![64, 512]⟩
abbrev S32x512 : Shape := ⟨2, ![32, 512]⟩
abbrev S8x512 : Shape := ⟨2, ![8, 512]⟩
abbrev S4x512 : Shape := ⟨2, ![4, 512]⟩
abbrev S2x512 : Shape := ⟨2, ![2, 512]⟩
abbrev S1x512 : Shape := ⟨2, ![1, 512]⟩

abbrev nBuf : Space → Nat
  | .hbm => 2
  | .vmem => 4
  | .smem => 0
  | _ => 0

abbrev bufTy : (tb : Table) → Fin (tcTables nBuf tb) → BufTy
  | .hbm, ⟨0, _⟩ => ⟨S512x4096, .f32⟩
  | .hbm, ⟨1, _⟩ => ⟨S512x16, .f32⟩
  | .local _ .vmem, ⟨0, _⟩ => ⟨S512x4096, .f32⟩
  | .local _ .vmem, ⟨1, _⟩ => ⟨S512x16, .f32⟩
  | .local _ .vmem, ⟨2, _⟩ => ⟨S16x512, .f32⟩
  | .local _ .vmem, ⟨3, _⟩ => ⟨S16x512, .f32⟩
  | _, _ => ⟨S512x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 4 → Bool
  | ⟨0, _⟩ => true
  | ⟨1, _⟩ => true
  | ⟨2, _⟩ => true
  | ⟨3, _⟩ => true
  | _ => false

abbrev sig : RefSig :=
  (ofTc nBuf bufTy 1 4 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_sem0_0 : DmaSem sig := 0
abbrev cc0_sem1_0 : DmaSem sig := 1
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_4 : BitVec 32 := 2#32
  let v8 : BitVec 32 := Scalar.muli v2 c2_i32_4
  let v9 : BitVec 32 := Scalar.addi c0_i32 v8
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_5 : BitVec 32 := 1#32
  let v10 : BitVec 32 := Scalar.muli v6 c1_i32_5
  let v11 : BitVec 32 := Scalar.addi v9 v10
  v11.toNat
def k0_dev2 (d0 : Dev nD) : Nat :=
  let c0_i32_12 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_11 : BitVec 32 := 2#32
  let v758 : BitVec 32 := Scalar.muli v2 c2_i32_11
  let v759 : BitVec 32 := Scalar.addi c0_i32_12 v758
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_13 : BitVec 32 := 1#32
  let v760 : BitVec 32 := Scalar.muli v6 c1_i32_13
  let v761 : BitVec 32 := Scalar.addi v759 v760
  v761.toNat
abbrev stage0_0 : Fin 1 → Memref sig .tc .vmem S512x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S512x8192 : Shape := ⟨2, ![512, 8192]⟩
abbrev S512x16 : Shape := ⟨2, ![512, 16]⟩
abbrev S_ : Shape := ⟨0, ![]⟩
abbrev S512x16x1 : Shape := ⟨3, ![512, 16, 1]⟩
abbrev S1 : Shape := ⟨1, ![1]⟩
abbrev S1x1x1 : Shape := ⟨3, ![1, 1, 1]⟩

abbrev nBuf : Space → Nat
  | .hbm => 28
  | .vmem => 0
  | .smem => 0
  | _ => 0

abbrev bufTy : (tb : Table) → Fin (tcTables nBuf tb) → BufTy
  | .hbm, ⟨0, _⟩ => ⟨S512x8192, .f32⟩
  | .hbm, ⟨1, _⟩ => ⟨S512x8192, .f32⟩
  | .hbm, ⟨2, _⟩ => ⟨S512x8192, .i32⟩
  | .hbm, ⟨3, _⟩ => ⟨S512x8192, .f32⟩
  | .hbm, ⟨4, _⟩ => ⟨S512x8192, .i32⟩
  | .hbm, ⟨5, _⟩ => ⟨S512x16, .i32⟩
  | .hbm, ⟨6, _⟩ => ⟨S_, .i32⟩
  | .hbm, ⟨7, _⟩ => ⟨S512x16, .i32⟩
  | .hbm, ⟨8, _⟩ => ⟨S512x16, .i1⟩
  | .hbm, ⟨9, _⟩ => ⟨S_, .i32⟩
  | .hbm, ⟨10, _⟩ => ⟨S512x16, .i32⟩
  | .hbm, ⟨11, _⟩ => ⟨S512x16, .i32⟩
  | .hbm, ⟨12, _⟩ => ⟨S512x16, .i32⟩
  | .hbm, ⟨13, _⟩ => ⟨S512x16x1, .i32⟩
  | .hbm, ⟨14, _⟩ => ⟨S1, .i32⟩
  | .hbm, ⟨15, _⟩ => ⟨S_, .i32⟩
  | .hbm, ⟨16, _⟩ => ⟨S512x16x1, .i32⟩
  | .hbm, ⟨17, _⟩ => ⟨S512x16x1, .i1⟩
  | .hbm, ⟨18, _⟩ => ⟨S1x1x1, .i32⟩
  | .hbm, ⟨19, _⟩ => ⟨S512x16x1, .i32⟩
  | .hbm, ⟨20, _⟩ => ⟨S512x16x1, .i1⟩
  | .hbm, ⟨21, _⟩ => ⟨S512x16x1, .i1⟩
  | .hbm, ⟨22, _⟩ => ⟨S_, .i1⟩
  | .hbm, ⟨23, _⟩ => ⟨S512x16, .i1⟩
  | .hbm, ⟨24, _⟩ => ⟨S512x16, .f32⟩
  | .hbm, ⟨25, _⟩ => ⟨S_, .f32⟩
  | .hbm, ⟨26, _⟩ => ⟨S512x16, .f32⟩
  | .hbm, ⟨27, _⟩ => ⟨S512x16, .f32⟩
  | _, _ => ⟨S512x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_call0_v0 : Ref sig .tc := ⟨.hbm, 2, rfl⟩
abbrev main_call0_v1_0 : Ref sig .tc := ⟨.hbm, 3, rfl⟩
abbrev main_v1 : Ref sig .tc := ⟨.hbm, 4, rfl⟩
abbrev main_v2 : Ref sig .tc := ⟨.hbm, 5, rfl⟩
abbrev main_call1_c : Ref sig .tc := ⟨.hbm, 6, rfl⟩
abbrev main_call1_v0 : Ref sig .tc := ⟨.hbm, 7, rfl⟩
abbrev main_call1_v1 : Ref sig .tc := ⟨.hbm, 8, rfl⟩
abbrev main_call1_c_0 : Ref sig .tc := ⟨.hbm, 9, rfl⟩
abbrev main_call1_v2 : Ref sig .tc := ⟨.hbm, 10, rfl⟩
abbrev main_call1_v3 : Ref sig .tc := ⟨.hbm, 11, rfl⟩
abbrev main_call1_v4 : Ref sig .tc := ⟨.hbm, 12, rfl⟩
abbrev main_call1_v5 : Ref sig .tc := ⟨.hbm, 13, rfl⟩
abbrev main_call1_c_1 : Ref sig .tc := ⟨.hbm, 14, rfl⟩
abbrev main_call1_c_2 : Ref sig .tc := ⟨.hbm, 15, rfl⟩
abbrev main_call1_v6 : Ref sig .tc := ⟨.hbm, 16, rfl⟩
abbrev main_call1_v7 : Ref sig .tc := ⟨.hbm, 17, rfl⟩
abbrev main_call1_v8 : Ref sig .tc := ⟨.hbm, 18, rfl⟩
abbrev main_call1_v9 : Ref sig .tc := ⟨.hbm, 19, rfl⟩
abbrev main_call1_v10 : Ref sig .tc := ⟨.hbm, 20, rfl⟩
abbrev main_call1_v11 : Ref sig .tc := ⟨.hbm, 21, rfl⟩
abbrev main_call1_c_3 : Ref sig .tc := ⟨.hbm, 22, rfl⟩
abbrev main_call1_v12 : Ref sig .tc := ⟨.hbm, 23, rfl⟩
abbrev main_call1_v13 : Ref sig .tc := ⟨.hbm, 24, rfl⟩
abbrev main_call1_cst : Ref sig .tc := ⟨.hbm, 25, rfl⟩
abbrev main_call1_v14 : Ref sig .tc := ⟨.hbm, 26, rfl⟩
abbrev main_v3 : Ref sig .tc := ⟨.hbm, 27, rfl⟩

abbrev nD : Nat := 1
abbrev τ : Topo := Topo.v7x

variable {F : FTy → Type} [FloatOps F]
-- ==== Proof.Net.lean ====
/-
# The sorting networks of the kernel, over any element type

A list is a function of its place `0, 1, 2, …`, of which the first places are meant. The networks take
the two operations "the larger of" and "the smaller of" as arguments, so that one text serves the
kernel's arrays, its numbers and truth values.
-/
module

public import Mathlib.Data.Finset.Card
public import Mathlib.Tactic.IntervalCases

@[expose] public section

namespace Cert.TopK

variable {α β : Type}

/-- One compare-exchange stage at distance `d`: of every two places `d` apart (the lower one with a zero
    at `d`'s binary digit) the lower gets the larger value. -/
def cx (mx mn : α → α → α) (d : ℕ) (s : ℕ → α) : ℕ → α := fun i =>
  cond (Nat.beq (i / d % 2) 0) (mx (s i) (s (i + d))) (mn (s (i - d)) (s i))

/-- The first stage of a merge that keeps everything: two lists of `n`, the second met backwards; the larger
    values in the first `n` places, the smaller ones in the next `n`. -/
def grow (mx mn : α → α → α) (n : ℕ) (a b : ℕ → α) : ℕ → α := fun i =>
  cond (Nat.blt i n) (mx (a i) (b (n - 1 - i))) (mn (a (i - n)) (b (2 * n - 1 - i)))

/-- The first stage of a merge that keeps the sixteen largest of two lists of sixteen. -/
def trim (mx : α → α → α) (a b : ℕ → α) : ℕ → α := fun i => mx (a i) (b (15 - i))

end Cert.TopK

end
-- ==== Proof.Cand.lean ====
/-
# What one device computes from its block: the sixteen largest values of every row

The kernel's arrays, level by level. A device's block `x` has 512 rows of 4096 columns. Its columns fall
into 128 classes (the column number modulo 128). `top5` holds each class's largest value and `second` the pair of the
second and third. Transposed (class first, row second) and with a fourth list of `-∞` they are `base`.
Seven levels then halve the number of classes, merging the lists of the two halves: lists of four grow
to eight, lists of eight to sixteen, and from there on the sixteen largest are kept. `cand` is what is left
of it: row `r`'s list in column `r`.
-/
module

public import proofs.«01_k».proof.Proof.Net
public import proofs.«01_k».proof.Proof.Gen.KernelIdeal

@[expose] public section

noncomputable section

namespace Cert.TopK

open Cert.KernelIdeal Cert.KernelIdeal.Gen
open Idealize.ShloMosaic

variable {F : FTy → Type} [FloatOps F]

/-! ## The three largest of every class -/

/-- The block as the fold takes it. -/
def top0 (x : FVec F S512x4096 .f32) : FVec F S512x4096 .f32 := shapeCast S512x4096 x shapeCasts_S512x4096_S512x4096
/-- The larger of the two halves of `top0`. -/
def top1 (x : FVec F S512x4096 .f32) : FVec F S512x2048 .f32 := maximumf (extractStridedSlice S512x2048 ![0, 0] (top0 x) slices_S512x4096_o0_0_S512x2048) (extractStridedSlice S512x2048 ![0, 2048] (top0 x) slices_S512x4096_o0_2048_S512x2048)
/-- The smaller of the two halves of `top0`. -/
def low1 (x : FVec F S512x4096 .f32) : FVec F S512x2048 .f32 := minimumf (extractStridedSlice S512x2048 ![0, 0] (top0 x) slices_S512x4096_o0_0_S512x2048) (extractStridedSlice S512x2048 ![0, 2048] (top0 x) slices_S512x4096_o0_2048_S512x2048)
/-- The larger of the two halves of `top1`. -/
def top2 (x : FVec F S512x4096 .f32) : FVec F S512x1024 .f32 := maximumf (extractStridedSlice S512x1024 ![0, 0] (top1 x) slices_S512x2048_o0_0_S512x1024) (extractStridedSlice S512x1024 ![0, 1024] (top1 x) slices_S512x2048_o0_1024_S512x1024)
/-- The smaller of the two halves of `top1`. -/
def low2 (x : FVec F S512x4096 .f32) : FVec F S512x1024 .f32 := minimumf (extractStridedSlice S512x1024 ![0, 0] (top1 x) slices_S512x2048_o0_0_S512x1024) (extractStridedSlice S512x1024 ![0, 1024] (top1 x) slices_S512x2048_o0_1024_S512x1024)
/-- The larger of the two halves of `top2`. -/
def top3 (x : FVec F S512x4096 .f32) : FVec F S512x512 .f32 := maximumf (extractStridedSlice S512x512 ![0, 0] (top2 x) slices_S512x1024_o0_0_S512x512) (extractStridedSlice S512x512 ![0, 512] (top2 x) slices_S512x1024_o0_512_S512x512)
/-- The smaller of the two halves of `top2`. -/
def low3 (x : FVec F S512x4096 .f32) : FVec F S512x512 .f32 := minimumf (extractStridedSlice S512x512 ![0, 0] (top2 x) slices_S512x1024_o0_0_S512x512) (extractStridedSlice S512x512 ![0, 512] (top2 x) slices_S512x1024_o0_512_S512x512)
/-- The larger of the two halves of `top3`. -/
def top4 (x : FVec F S512x4096 .f32) : FVec F S512x256 .f32 := maximumf (extractStridedSlice S512x256 ![0, 0] (top3 x) slices_S512x512_o0_0_S512x256) (extractStridedSlice S512x256 ![0, 256] (top3 x) slices_S512x512_o0_256_S512x256)
/-- The smaller of the two halves of `top3`. -/
def low4 (x : FVec F S512x4096 .f32) : FVec F S512x256 .f32 := minimumf (extractStridedSlice S512x256 ![0, 0] (top3 x) slices_S512x512_o0_0_S512x256) (extractStridedSlice S512x256 ![0, 256] (top3 x) slices_S512x512_o0_256_S512x256)
/-- The larger of the two halves of `top4`. -/
def top5 (x : FVec F S512x4096 .f32) : FVec F S512x128 .f32 := maximumf (extractStridedSlice S512x128 ![0, 0] (top4 x) slices_S512x256_o0_0_S512x128) (extractStridedSlice S512x128 ![0, 128] (top4 x) slices_S512x256_o0_128_S512x128)
/-- The smaller of the two halves of `top4`. -/
def low5 (x : FVec F S512x4096 .f32) : FVec F S512x128 .f32 := minimumf (extractStridedSlice S512x128 ![0, 0] (top4 x) slices_S512x256_o0_0_S512x128) (extractStridedSlice S512x128 ![0, 128] (top4 x) slices_S512x256_o0_128_S512x128)

/-- `low4` folded to 128 columns. -/
def low4_5 (x : FVec F S512x4096 .f32) : FVec F S512x128 .f32 := maximumf (extractStridedSlice S512x128 ![0, 0] (low4 x) slices_S512x256_o0_0_S512x128) (extractStridedSlice S512x128 ![0, 128] (low4 x) slices_S512x256_o0_128_S512x128)
/-- `low3` folded to 256 columns. -/
def low3_4 (x : FVec F S512x4096 .f32) : FVec F S512x256 .f32 := maximumf (extractStridedSlice S512x256 ![0, 0] (low3 x) slices_S512x512_o0_0_S512x256) (extractStridedSlice S512x256 ![0, 256] (low3 x) slices_S512x512_o0_256_S512x256)
/-- `low3` folded to 128 columns. -/
def low3_5 (x : FVec F S512x4096 .f32) : FVec F S512x128 .f32 := maximumf (extractStridedSlice S512x128 ![0, 0] (low3_4 x) slices_S512x256_o0_0_S512x128) (extractStridedSlice S512x128 ![0, 128] (low3_4 x) slices_S512x256_o0_128_S512x128)
/-- `low2` folded to 512 columns. -/
def low2_3 (x : FVec F S512x4096 .f32) : FVec F S512x512 .f32 := maximumf (extractStridedSlice S512x512 ![0, 0] (low2 x) slices_S512x1024_o0_0_S512x512) (extractStridedSlice S512x512 ![0, 512] (low2 x) slices_S512x1024_o0_512_S512x512)
/-- `low2` folded to 256 columns. -/
def low2_4 (x : FVec F S512x4096 .f32) : FVec F S512x256 .f32 := maximumf (extractStridedSlice S512x256 ![0, 0] (low2_3 x) slices_S512x512_o0_0_S512x256) (extractStridedSlice S512x256 ![0, 256] (low2_3 x) slices_S512x512_o0_256_S512x256)
/-- `low2` folded to 128 columns. -/
def low2_5 (x : FVec F S512x4096 .f32) : FVec F S512x128 .f32 := maximumf (extractStridedSlice S512x128 ![0, 0] (low2_4 x) slices_S512x256_o0_0_S512x128) (extractStridedSlice S512x128 ![0, 128] (low2_4 x) slices_S512x256_o0_128_S512x128)
/-- `low1` folded to 1024 columns. -/
def low1_2 (x : FVec F S512x4096 .f32) : FVec F S512x1024 .f32 := maximumf (extractStridedSlice S512x1024 ![0, 0] (low1 x) slices_S512x2048_o0_0_S512x1024) (extractStridedSlice S512x1024 ![0, 1024] (low1 x) slices_S512x2048_o0_1024_S512x1024)
/-- `low1` folded to 512 columns. -/
def low1_3 (x : FVec F S512x4096 .f32) : FVec F S512x512 .f32 := maximumf (extractStridedSlice S512x512 ![0, 0] (low1_2 x) slices_S512x1024_o0_0_S512x512) (extractStridedSlice S512x512 ![0, 512] (low1_2 x) slices_S512x1024_o0_512_S512x512)
/-- `low1` folded to 256 columns. -/
def low1_4 (x : FVec F S512x4096 .f32) : FVec F S512x256 .f32 := maximumf (extractStridedSlice S512x256 ![0, 0] (low1_3 x) slices_S512x512_o0_0_S512x256) (extractStridedSlice S512x256 ![0, 256] (low1_3 x) slices_S512x512_o0_256_S512x256)
/-- `low1` folded to 128 columns. -/
def low1_5 (x : FVec F S512x4096 .f32) : FVec F S512x128 .f32 := maximumf (extractStridedSlice S512x128 ![0, 0] (low1_4 x) slices_S512x256_o0_0_S512x128) (extractStridedSlice S512x128 ![0, 128] (low1_4 x) slices_S512x256_o0_128_S512x128)

/-- Minus infinity everywhere. -/
def never : FVec F S512x128 .f32 := broadcast S512x128 (Scalar.ofBits .f32 0xFF800000#32)

/-- One step of keeping the second and third largest: the list `p` with `v` put in. -/
def put (p : FVec F S512x128 .f32 × FVec F S512x128 .f32) (v : FVec F S512x128 .f32) : FVec F S512x128 .f32 × FVec F S512x128 .f32 :=
  (maximumf p.1 v, maximumf p.2 (minimumf p.1 v))

/-- The second and third largest of every class, from the losers of the five folds. -/
def second (x : FVec F S512x4096 .f32) : FVec F S512x128 .f32 × FVec F S512x128 .f32 :=
  put (put (put (put (low5 x, never) (low4_5 x)) (low3_5 x)) (low2_5 x)) (low1_5 x)

/-! ## The levels -/

/-- The four lists the levels start from, class first. -/
def base (x : FVec F S512x4096 .f32) : ℕ → FVec F S128x512 .f32
  | 0 => transpose S128x512 [1, 0] (top5 x) transposes_S512x128_p1_0_S128x512
  | 1 => transpose S128x512 [1, 0] (second x).1 transposes_S512x128_p1_0_S128x512
  | 2 => transpose S128x512 [1, 0] (second x).2 transposes_S512x128_p1_0_S128x512
  | _ => transpose S128x512 [1, 0] never transposes_S512x128_p1_0_S128x512

/-- Level 1: the first 64 of the 128 classes, -/
def lo1 (x : FVec F S512x4096 .f32) : ℕ → FVec F S64x512 .f32 := fun i => extractStridedSlice S64x512 ![0, 0] (base x i) slices_S128x512_o0_0_S64x512
/-- the other 64, -/
def hi1 (x : FVec F S512x4096 .f32) : ℕ → FVec F S64x512 .f32 := fun i => extractStridedSlice S64x512 ![64, 0] (base x i) slices_S128x512_o64_0_S64x512
/-- their first stage, -/
def m1 (x : FVec F S512x4096 .f32) : ℕ → FVec F S64x512 .f32 := grow maximumf minimumf 4 (lo1 x) (hi1 x)
/-- and the stage at distance 2, -/
def c1_2 (x : FVec F S512x4096 .f32) : ℕ → FVec F S64x512 .f32 := cx maximumf minimumf 2 (m1 x)
/-- and the stage at distance 1. -/
def c1_1 (x : FVec F S512x4096 .f32) : ℕ → FVec F S64x512 .f32 := cx maximumf minimumf 1 (c1_2 x)
/-- Level 2: the first 32 of the 64 classes, -/
def lo2 (x : FVec F S512x4096 .f32) : ℕ → FVec F S32x512 .f32 := fun i => extractStridedSlice S32x512 ![0, 0] (c1_1 x i) slices_S64x512_o0_0_S32x512
/-- the other 32, -/
def hi2 (x : FVec F S512x4096 .f32) : ℕ → FVec F S32x512 .f32 := fun i => extractStridedSlice S32x512 ![32, 0] (c1_1 x i) slices_S64x512_o32_0_S32x512
/-- their first stage, -/
def m2 (x : FVec F S512x4096 .f32) : ℕ → FVec F S32x512 .f32 := grow maximumf minimumf 8 (lo2 x) (hi2 x)
/-- and the stage at distance 4, -/
def c2_4 (x : FVec F S512x4096 .f32) : ℕ → FVec F S32x512 .f32 := cx maximumf minimumf 4 (m2 x)
/-- and the stage at distance 2, -/
def c2_2 (x : FVec F S512x4096 .f32) : ℕ → FVec F S32x512 .f32 := cx maximumf minimumf 2 (c2_4 x)
/-- and the stage at distance 1. -/
def c2_1 (x : FVec F S512x4096 .f32) : ℕ → FVec F S32x512 .f32 := cx maximumf minimumf 1 (c2_2 x)
/-- Level 3: the first 16 of the 32 classes, -/
def lo3 (x : FVec F S512x4096 .f32) : ℕ → FVec F S16x512 .f32 := fun i => extractStridedSlice S16x512 ![0, 0] (c2_1 x i) slices_S32x512_o0_0_S16x512
/-- the other 16, -/
def hi3 (x : FVec F S512x4096 .f32) : ℕ → FVec F S16x512 .f32 := fun i => extractStridedSlice S16x512 ![16, 0] (c2_1 x i) slices_S32x512_o16_0_S16x512
/-- their first stage, -/
def m3 (x : FVec F S512x4096 .f32) : ℕ → FVec F S16x512 .f32 := trim maximumf (lo3 x) (hi3 x)
/-- and the stage at distance 8, -/
def c3_8 (x : FVec F S512x4096 .f32) : ℕ → FVec F S16x512 .f32 := cx maximumf minimumf 8 (m3 x)
/-- and the stage at distance 4, -/
def c3_4 (x : FVec F S512x4096 .f32) : ℕ → FVec F S16x512 .f32 := cx maximumf minimumf 4 (c3_8 x)
/-- and the stage at distance 2, -/
def c3_2 (x : FVec F S512x4096 .f32) : ℕ → FVec F S16x512 .f32 := cx maximumf minimumf 2 (c3_4 x)
/-- and the stage at distance 1. -/
def c3_1 (x : FVec F S512x4096 .f32) : ℕ → FVec F S16x512 .f32 := cx maximumf minimumf 1 (c3_2 x)
/-- Level 4: the first 8 of the 16 classes, -/
def lo4 (x : FVec F S512x4096 .f32) : ℕ → FVec F S8x512 .f32 := fun i => extractStridedSlice S8x512 ![0, 0] (c3_1 x i) slices_S16x512_o0_0_S8x512
/-- the other 8, -/
def hi4 (x : FVec F S512x4096 .f32) : ℕ → FVec F S8x512 .f32 := fun i => extractStridedSlice S8x512 ![8, 0] (c3_1 x i) slices_S16x512_o8_0_S8x512
/-- their first stage, -/
def m4 (x : FVec F S512x4096 .f32) : ℕ → FVec F S8x512 .f32 := trim maximumf (lo4 x) (hi4 x)
/-- and the stage at distance 8, -/
def c4_8 (x : FVec F S512x4096 .f32) : ℕ → FVec F S8x512 .f32 := cx maximumf minimumf 8 (m4 x)
/-- and the stage at distance 4, -/
def c4_4 (x : FVec F S512x4096 .f32) : ℕ → FVec F S8x512 .f32 := cx maximumf minimumf 4 (c4_8 x)
/-- and the stage at distance 2, -/
def c4_2 (x : FVec F S512x4096 .f32) : ℕ → FVec F S8x512 .f32 := cx maximumf minimumf 2 (c4_4 x)
/-- and the stage at distance 1. -/
def c4_1 (x : FVec F S512x4096 .f32) : ℕ → FVec F S8x512 .f32 := cx maximumf minimumf 1 (c4_2 x)
/-- Level 5: the first 4 of the 8 classes, -/
def lo5 (x : FVec F S512x4096 .f32) : ℕ → FVec F S4x512 .f32 := fun i => extractStridedSlice S4x512 ![0, 0] (c4_1 x i) slices_S8x512_o0_0_S4x512
/-- the other 4, -/
def hi5 (x : FVec F S512x4096 .f32) : ℕ → FVec F S4x512 .f32 := fun i => extractStridedSlice S4x512 ![4, 0] (c4_1 x i) slices_S8x512_o4_0_S4x512
/-- their first stage, -/
def m5 (x : FVec F S512x4096 .f32) : ℕ → FVec F S4x512 .f32 := trim maximumf (lo5 x) (hi5 x)
/-- and the stage at distance 8, -/
def c5_8 (x : FVec F S512x4096 .f32) : ℕ → FVec F S4x512 .f32 := cx maximumf minimumf 8 (m5 x)
/-- and the stage at distance 4, -/
def c5_4 (x : FVec F S512x4096 .f32) : ℕ → FVec F S4x512 .f32 := cx maximumf minimumf 4 (c5_8 x)
/-- and the stage at distance 2, -/
def c5_2 (x : FVec F S512x4096 .f32) : ℕ → FVec F S4x512 .f32 := cx maximumf minimumf 2 (c5_4 x)
/-- and the stage at distance 1. -/
def c5_1 (x : FVec F S512x4096 .f32) : ℕ → FVec F S4x512 .f32 := cx maximumf minimumf 1 (c5_2 x)
/-- Level 6: the first 2 of the 4 classes, -/
def lo6 (x : FVec F S512x4096 .f32) : ℕ → FVec F S2x512 .f32 := fun i => extractStridedSlice S2x512 ![0, 0] (c5_1 x i) slices_S4x512_o0_0_S2x512
/-- the other 2, -/
def hi6 (x : FVec F S512x4096 .f32) : ℕ → FVec F S2x512 .f32 := fun i => extractStridedSlice S2x512 ![2, 0] (c5_1 x i) slices_S4x512_o2_0_S2x512
/-- their first stage, -/
def m6 (x : FVec F S512x4096 .f32) : ℕ → FVec F S2x512 .f32 := trim maximumf (lo6 x) (hi6 x)
/-- and the stage at distance 8, -/
def c6_8 (x : FVec F S512x4096 .f32) : ℕ → FVec F S2x512 .f32 := cx maximumf minimumf 8 (m6 x)
/-- and the stage at distance 4, -/
def c6_4 (x : FVec F S512x4096 .f32) : ℕ → FVec F S2x512 .f32 := cx maximumf minimumf 4 (c6_8 x)
/-- and the stage at distance 2, -/
def c6_2 (x : FVec F S512x4096 .f32) : ℕ → FVec F S2x512 .f32 := cx maximumf minimumf 2 (c6_4 x)
/-- and the stage at distance 1. -/
def c6_1 (x : FVec F S512x4096 .f32) : ℕ → FVec F S2x512 .f32 := cx maximumf minimumf 1 (c6_2 x)
/-- Level 7: the first 1 of the 2 classes, -/
def lo7 (x : FVec F S512x4096 .f32) : ℕ → FVec F S1x512 .f32 := fun i => extractStridedSlice S1x512 ![0, 0] (c6_1 x i) slices_S2x512_o0_0_S1x512
/-- the other 1, -/
def hi7 (x : FVec F S512x4096 .f32) : ℕ → FVec F S1x512 .f32 := fun i => extractStridedSlice S1x512 ![1, 0] (c6_1 x i) slices_S2x512_o1_0_S1x512
/-- their first stage, -/
def m7 (x : FVec F S512x4096 .f32) : ℕ → FVec F S1x512 .f32 := trim maximumf (lo7 x) (hi7 x)
/-- and the stage at distance 8, -/
def c7_8 (x : FVec F S512x4096 .f32) : ℕ → FVec F S1x512 .f32 := cx maximumf minimumf 8 (m7 x)
/-- and the stage at distance 4, -/
def c7_4 (x : FVec F S512x4096 .f32) : ℕ → FVec F S1x512 .f32 := cx maximumf minimumf 4 (c7_8 x)
/-- and the stage at distance 2, -/
def c7_2 (x : FVec F S512x4096 .f32) : ℕ → FVec F S1x512 .f32 := cx maximumf minimumf 2 (c7_4 x)
/-- and the stage at distance 1. -/
def c7_1 (x : FVec F S512x4096 .f32) : ℕ → FVec F S1x512 .f32 := cx maximumf minimumf 1 (c7_2 x)

end Cert.TopK

end
-- ==== Proof.Windows.lean ====
/-
# The kernel's text, window by window, names the levels' lists

The kernel's body is printed in windows of sixty statements. Given the lists' entries a window starts from,
it hands on the entries it ends with.
-/
module

public import proofs.«01_k».proof.Proof.Cand

@[expose] public section

set_option maxRecDepth 65536

noncomputable section

namespace Cert.TopK

open Cert.KernelIdeal Cert.KernelIdeal.Gen
open Idealize.ShloMosaic

variable {F : FTy → Type} [FloatOps F]

section Windows

variable (arg0 : Memref sig .tc .vmem S512x4096 .f32) (harg0 : arg0.IsWhole) (arg1 : Memref sig .tc .vmem S512x16 .f32) (harg1 : arg1.IsWhole)
  (arg2 : Memref sig .tc .vmem S16x512 .f32) (harg2 : arg2.IsWhole) (arg3 : Memref sig .tc .vmem S16x512 .f32) (harg3 : arg3.IsWhole)
  (arg4 : DmaSems sig S_) (arg5 : DmaSems sig S_) (x : FVec F S512x4096 .f32)

/-- Window 2. -/
theorem window2 : k0_part2 arg0 harg0 arg1 harg1 arg2 harg2 arg3 harg3 arg4 arg5
    (low1 x) (low2 x) (top5 x) ((put (low5 x, never) (low4_5 x)).1) ((put (low5 x, never) (low4_5 x)).2) (extractStridedSlice S512x256 ![0, 0] (low3 x) slices_S512x512_o0_0_S512x256) (extractStridedSlice S512x256 ![0, 256] (low3 x) slices_S512x512_o0_256_S512x256)
  = pure ⟨m1 x 4, m1 x 5, m1 x 6, m1 x 7, c1_2 x 0, c1_2 x 2, c1_2 x 1, c1_2 x 3⟩ := rfl

/-- Window 3. -/
theorem window3 : k0_part3 arg0 harg0 arg1 harg1 arg2 harg2 arg3 harg3 arg4 arg5
    (m1 x 4) (m1 x 5) (m1 x 6) (m1 x 7) (c1_2 x 0) (c1_2 x 2) (c1_2 x 1) (c1_2 x 3)
  = pure ⟨c2_4 x 0, c2_4 x 4, c2_4 x 1, c2_4 x 5, c2_4 x 2, c2_4 x 6, c2_4 x 3, c2_4 x 7, c2_4 x 8, c2_4 x 12, c2_4 x 9, c2_4 x 13, c2_4 x 10, c2_4 x 14, c2_4 x 11, c2_4 x 15⟩ := rfl

/-- Window 4. -/
theorem window4 : k0_part4 arg0 harg0 arg1 harg1 arg2 harg2 arg3 harg3 arg4 arg5
    (c2_4 x 0) (c2_4 x 4) (c2_4 x 1) (c2_4 x 5) (c2_4 x 2) (c2_4 x 6) (c2_4 x 3) (c2_4 x 7) (c2_4 x 8) (c2_4 x 12) (c2_4 x 9) (c2_4 x 13) (c2_4 x 10) (c2_4 x 14) (c2_4 x 11) (c2_4 x 15)
  = pure ⟨c2_1 x 12, c2_1 x 13, c2_1 x 14, c2_1 x 15, lo3 x 0, lo3 x 1, lo3 x 2, lo3 x 3, lo3 x 4, lo3 x 5, lo3 x 6, lo3 x 7, lo3 x 8, lo3 x 9, lo3 x 10, lo3 x 11, lo3 x 12, lo3 x 13, lo3 x 14, lo3 x 15, hi3 x 0, hi3 x 1, hi3 x 2, hi3 x 3, hi3 x 4, hi3 x 5, hi3 x 6, hi3 x 7, hi3 x 8, hi3 x 9, hi3 x 10, hi3 x 11⟩ := rfl

/-- Window 5. -/
theorem window5 : k0_part5 arg0 harg0 arg1 harg1 arg2 harg2 arg3 harg3 arg4 arg5
    (c2_1 x 12) (c2_1 x 13) (c2_1 x 14) (c2_1 x 15) (lo3 x 0) (lo3 x 1) (lo3 x 2) (lo3 x 3) (lo3 x 4) (lo3 x 5) (lo3 x 6) (lo3 x 7) (lo3 x 8) (lo3 x 9) (lo3 x 10) (lo3 x 11) (lo3 x 12) (lo3 x 13) (lo3 x 14) (lo3 x 15) (hi3 x 0) (hi3 x 1) (hi3 x 2) (hi3 x 3) (hi3 x 4) (hi3 x 5) (hi3 x 6) (hi3 x 7) (hi3 x 8) (hi3 x 9) (hi3 x 10) (hi3 x 11)
  = pure ⟨c3_4 x 8, c3_4 x 12, c3_4 x 9, c3_4 x 13, c3_4 x 10, c3_4 x 14, c3_4 x 11, c3_4 x 15, c3_2 x 0, c3_2 x 2, c3_2 x 1, c3_2 x 3, c3_2 x 4, c3_2 x 6, c3_2 x 5, c3_2 x 7⟩ := rfl

/-- Window 6. -/
theorem window6 : k0_part6 arg0 harg0 arg1 harg1 arg2 harg2 arg3 harg3 arg4 arg5
    (c3_4 x 8) (c3_4 x 12) (c3_4 x 9) (c3_4 x 13) (c3_4 x 10) (c3_4 x 14) (c3_4 x 11) (c3_4 x 15) (c3_2 x 0) (c3_2 x 2) (c3_2 x 1) (c3_2 x 3) (c3_2 x 4) (c3_2 x 6) (c3_2 x 5) (c3_2 x 7)
  = pure ⟨lo4 x 4, lo4 x 5, lo4 x 6, lo4 x 7, lo4 x 8, lo4 x 9, lo4 x 10, lo4 x 11, lo4 x 12, lo4 x 13, lo4 x 14, lo4 x 15, hi4 x 0, hi4 x 1, hi4 x 2, hi4 x 3, hi4 x 4, hi4 x 5, hi4 x 6, hi4 x 7, hi4 x 8, hi4 x 9, hi4 x 10, hi4 x 11, m4 x 0, m4 x 1, m4 x 2, m4 x 3⟩ := rfl

/-- Window 7. -/
theorem window7 : k0_part7 arg0 harg0 arg1 harg1 arg2 harg2 arg3 harg3 arg4 arg5
    (lo4 x 4) (lo4 x 5) (lo4 x 6) (lo4 x 7) (lo4 x 8) (lo4 x 9) (lo4 x 10) (lo4 x 11) (lo4 x 12) (lo4 x 13) (lo4 x 14) (lo4 x 15) (hi4 x 0) (hi4 x 1) (hi4 x 2) (hi4 x 3) (hi4 x 4) (hi4 x 5) (hi4 x 6) (hi4 x 7) (hi4 x 8) (hi4 x 9) (hi4 x 10) (hi4 x 11) (m4 x 0) (m4 x 1) (m4 x 2) (m4 x 3)
  = pure ⟨c4_2 x 0, c4_2 x 2, c4_2 x 1, c4_2 x 3, c4_2 x 4, c4_2 x 6, c4_2 x 5, c4_2 x 7, c4_2 x 8, c4_2 x 10, c4_2 x 9, c4_2 x 11, c4_2 x 12, c4_2 x 14, c4_2 x 13, c4_2 x 15⟩ := rfl

/-- Window 8. -/
theorem window8 : k0_part8 arg0 harg0 arg1 harg1 arg2 harg2 arg3 harg3 arg4 arg5
    (c4_2 x 0) (c4_2 x 2) (c4_2 x 1) (c4_2 x 3) (c4_2 x 4) (c4_2 x 6) (c4_2 x 5) (c4_2 x 7) (c4_2 x 8) (c4_2 x 10) (c4_2 x 9) (c4_2 x 11) (c4_2 x 12) (c4_2 x 14) (c4_2 x 13) (c4_2 x 15)
  = pure ⟨lo5 x 12, lo5 x 13, lo5 x 14, lo5 x 15, hi5 x 0, hi5 x 1, hi5 x 2, hi5 x 3, m5 x 0, m5 x 1, m5 x 2, m5 x 3, m5 x 4, m5 x 5, m5 x 6, m5 x 7, m5 x 8, m5 x 9, m5 x 10, m5 x 11⟩ := rfl

/-- Window 9. -/
theorem window9 : k0_part9 arg0 harg0 arg1 harg1 arg2 harg2 arg3 harg3 arg4 arg5
    (lo5 x 12) (lo5 x 13) (lo5 x 14) (lo5 x 15) (hi5 x 0) (hi5 x 1) (hi5 x 2) (hi5 x 3) (m5 x 0) (m5 x 1) (m5 x 2) (m5 x 3) (m5 x 4) (m5 x 5) (m5 x 6) (m5 x 7) (m5 x 8) (m5 x 9) (m5 x 10) (m5 x 11)
  = pure ⟨c5_2 x 8, c5_2 x 10, c5_2 x 9, c5_2 x 11, c5_2 x 12, c5_2 x 14, c5_2 x 13, c5_2 x 15, c5_1 x 0, c5_1 x 1, c5_1 x 2, c5_1 x 3, c5_1 x 4, c5_1 x 5, c5_1 x 6, c5_1 x 7⟩ := rfl

/-- Window 10. -/
theorem window10 : k0_part10 arg0 harg0 arg1 harg1 arg2 harg2 arg3 harg3 arg4 arg5
    (c5_2 x 8) (c5_2 x 10) (c5_2 x 9) (c5_2 x 11) (c5_2 x 12) (c5_2 x 14) (c5_2 x 13) (c5_2 x 15) (c5_1 x 0) (c5_1 x 1) (c5_1 x 2) (c5_1 x 3) (c5_1 x 4) (c5_1 x 5) (c5_1 x 6) (c5_1 x 7)
  = pure ⟨m6 x 2, m6 x 3, m6 x 4, m6 x 5, m6 x 6, m6 x 7, m6 x 10, m6 x 11, m6 x 12, m6 x 13, m6 x 14, m6 x 15, c6_8 x 0, c6_8 x 8, c6_8 x 1, c6_8 x 9⟩ := rfl

/-- Window 11. -/
theorem window11 : k0_part11 arg0 harg0 arg1 harg1 arg2 harg2 arg3 harg3 arg4 arg5
    (m6 x 2) (m6 x 3) (m6 x 4) (m6 x 5) (m6 x 6) (m6 x 7) (m6 x 10) (m6 x 11) (m6 x 12) (m6 x 13) (m6 x 14) (m6 x 15) (c6_8 x 0) (c6_8 x 8) (c6_8 x 1) (c6_8 x 9)
  = pure ⟨c6_1 x 0, c6_1 x 1, c6_1 x 2, c6_1 x 3, c6_1 x 4, c6_1 x 5, c6_1 x 6, c6_1 x 7, c6_1 x 8, c6_1 x 9, c6_1 x 10, c6_1 x 11, c6_1 x 12, c6_1 x 13, c6_1 x 14, c6_1 x 15⟩ := rfl

/-- Window 12. -/
theorem window12 : k0_part12 arg0 harg0 arg1 harg1 arg2 harg2 arg3 harg3 arg4 arg5
    (c6_1 x 0) (c6_1 x 1) (c6_1 x 2) (c6_1 x 3) (c6_1 x 4) (c6_1 x 5) (c6_1 x 6) (c6_1 x 7) (c6_1 x 8) (c6_1 x 9) (c6_1 x 10) (c6_1 x 11) (c6_1 x 12) (c6_1 x 13) (c6_1 x 14) (c6_1 x 15)
  = pure ⟨m7 x 6, m7 x 7, m7 x 14, m7 x 15, c7_8 x 0, c7_8 x 8, c7_8 x 1, c7_8 x 9, c7_8 x 2, c7_8 x 10, c7_8 x 3, c7_8 x 11, c7_8 x 4, c7_8 x 12, c7_8 x 5, c7_8 x 13⟩ := rfl

end Windows

end Cert.TopK

end
-- ==== Proof.Merge.lean ====
/-
# What a device does with its own list and its peer's

Both are arrays of sixteen rows: row `i`, column `r` holds the `i`-th largest value of the block's row `r`.
`merged a y` meets `a` with `y` backwards, keeps the larger value of each pair, sorts the result by four
compare-exchange stages at distances 8, 4, 2 and 1, and transposes it. `body` is the kernel's program in
these names.
-/
module

public import proofs.«01_k».proof.Proof.Windows
public import proofs.«01_k».proof.Proof.Gen.KernelIdeal.Skeleton

@[expose] public section

set_option maxRecDepth 65536

noncomputable section

namespace Cert.TopK

open Cert.KernelIdeal Cert.KernelIdeal.Gen
open Idealize.ShloMosaic Idealize.ShloMosaic.TcCoe
open Idealize.SL Idealize.SL.Sem

variable {F : FTy → Type} [FloatOps F]

/-- A device's own list: the last level's sixteen entries as the rows of one array. -/
def cand (x : FVec F S512x4096 .f32) : FVec F S16x512 .f32 := concatenate S16x512 0 [⟨S1x512, c7_1 x 0⟩, ⟨S1x512, c7_1 x 1⟩, ⟨S1x512, c7_1 x 2⟩, ⟨S1x512, c7_1 x 3⟩, ⟨S1x512, c7_1 x 4⟩, ⟨S1x512, c7_1 x 5⟩, ⟨S1x512, c7_1 x 6⟩, ⟨S1x512, c7_1 x 7⟩, ⟨S1x512, c7_1 x 8⟩, ⟨S1x512, c7_1 x 9⟩, ⟨S1x512, c7_1 x 10⟩, ⟨S1x512, c7_1 x 11⟩, ⟨S1x512, c7_1 x 12⟩, ⟨S1x512, c7_1 x 13⟩, ⟨S1x512, c7_1 x 14⟩, ⟨S1x512, c7_1 x 15⟩] concatenates_S1x512_S1x512_S1x512_S1x512_S1x512_S1x512_S1x512_S1x512_S1x512_S1x512_S1x512_S1x512_S1x512_S1x512_S1x512_S1x512_S16x512_d0

/-- What is stored of it. -/
def sent (x : FVec F S512x4096 .f32) : FVec F S16x512 .f32 := shapeCast S16x512 (cand x) shapeCasts_S16x512_S16x512

/-- The rows in the opposite order. -/
def rev (v : FVec F S16x512 .f32) : FVec F S16x512 .f32 := concatenate S16x512 0 [⟨S1x512, extractStridedSlice S1x512 ![15, 0] v slices_S16x512_o15_0_S1x512⟩, ⟨S1x512, extractStridedSlice S1x512 ![14, 0] v slices_S16x512_o14_0_S1x512⟩, ⟨S1x512, extractStridedSlice S1x512 ![13, 0] v slices_S16x512_o13_0_S1x512⟩, ⟨S1x512, extractStridedSlice S1x512 ![12, 0] v slices_S16x512_o12_0_S1x512⟩, ⟨S1x512, extractStridedSlice S1x512 ![11, 0] v slices_S16x512_o11_0_S1x512⟩, ⟨S1x512, extractStridedSlice S1x512 ![10, 0] v slices_S16x512_o10_0_S1x512⟩, ⟨S1x512, extractStridedSlice S1x512 ![9, 0] v slices_S16x512_o9_0_S1x512⟩, ⟨S1x512, extractStridedSlice S1x512 ![8, 0] v slices_S16x512_o8_0_S1x512⟩, ⟨S1x512, extractStridedSlice S1x512 ![7, 0] v slices_S16x512_o7_0_S1x512⟩, ⟨S1x512, extractStridedSlice S1x512 ![6, 0] v slices_S16x512_o6_0_S1x512⟩, ⟨S1x512, extractStridedSlice S1x512 ![5, 0] v slices_S16x512_o5_0_S1x512⟩, ⟨S1x512, extractStridedSlice S1x512 ![4, 0] v slices_S16x512_o4_0_S1x512⟩, ⟨S1x512, extractStridedSlice S1x512 ![3, 0] v slices_S16x512_o3_0_S1x512⟩, ⟨S1x512, extractStridedSlice S1x512 ![2, 0] v slices_S16x512_o2_0_S1x512⟩, ⟨S1x512, extractStridedSlice S1x512 ![1, 0] v slices_S16x512_o1_0_S1x512⟩, ⟨S1x512, extractStridedSlice S1x512 ![0, 0] v slices_S16x512_o0_0_S1x512⟩] concatenates_S1x512_S1x512_S1x512_S1x512_S1x512_S1x512_S1x512_S1x512_S1x512_S1x512_S1x512_S1x512_S1x512_S1x512_S1x512_S1x512_S16x512_d0

/-- Rows 8 apart exchanged, -/
def swap8 (v : FVec F S16x512 .f32) : FVec F S16x512 .f32 := concatenate S16x512 0 [⟨S8x512, extractStridedSlice S8x512 ![8, 0] v slices_S16x512_o8_0_S8x512⟩, ⟨S8x512, extractStridedSlice S8x512 ![0, 0] v slices_S16x512_o0_0_S8x512⟩] concatenates_S8x512_S8x512_S16x512_d0

/-- rows 4 apart exchanged, -/
def swap4 (v : FVec F S16x512 .f32) : FVec F S16x512 .f32 := concatenate S16x512 0 [⟨S4x512, extractStridedSlice S4x512 ![4, 0] v slices_S16x512_o4_0_S4x512⟩, ⟨S4x512, extractStridedSlice S4x512 ![0, 0] v slices_S16x512_o0_0_S4x512⟩, ⟨S4x512, extractStridedSlice S4x512 ![12, 0] v slices_S16x512_o12_0_S4x512⟩, ⟨S4x512, extractStridedSlice S4x512 ![8, 0] v slices_S16x512_o8_0_S4x512⟩] concatenates_S4x512_S4x512_S4x512_S4x512_S16x512_d0

/-- rows 2 apart exchanged, -/
def swap2 (v : FVec F S16x512 .f32) : FVec F S16x512 .f32 := concatenate S16x512 0 [⟨S2x512, extractStridedSlice S2x512 ![2, 0] v slices_S16x512_o2_0_S2x512⟩, ⟨S2x512, extractStridedSlice S2x512 ![0, 0] v slices_S16x512_o0_0_S2x512⟩, ⟨S2x512, extractStridedSlice S2x512 ![6, 0] v slices_S16x512_o6_0_S2x512⟩, ⟨S2x512, extractStridedSlice S2x512 ![4, 0] v slices_S16x512_o4_0_S2x512⟩, ⟨S2x512, extractStridedSlice S2x512 ![10, 0] v slices_S16x512_o10_0_S2x512⟩, ⟨S2x512, extractStridedSlice S2x512 ![8, 0] v slices_S16x512_o8_0_S2x512⟩, ⟨S2x512, extractStridedSlice S2x512 ![14, 0] v slices_S16x512_o14_0_S2x512⟩, ⟨S2x512, extractStridedSlice S2x512 ![12, 0] v slices_S16x512_o12_0_S2x512⟩] concatenates_S2x512_S2x512_S2x512_S2x512_S2x512_S2x512_S2x512_S2x512_S16x512_d0

/-- neighbouring rows exchanged. -/
def swap1 (v : FVec F S16x512 .f32) : FVec F S16x512 .f32 := concatenate S16x512 0 [⟨S1x512, extractStridedSlice S1x512 ![1, 0] v slices_S16x512_o1_0_S1x512⟩, ⟨S1x512, extractStridedSlice S1x512 ![0, 0] v slices_S16x512_o0_0_S1x512⟩, ⟨S1x512, extractStridedSlice S1x512 ![3, 0] v slices_S16x512_o3_0_S1x512⟩, ⟨S1x512, extractStridedSlice S1x512 ![2, 0] v slices_S16x512_o2_0_S1x512⟩, ⟨S1x512, extractStridedSlice S1x512 ![5, 0] v slices_S16x512_o5_0_S1x512⟩, ⟨S1x512, extractStridedSlice S1x512 ![4, 0] v slices_S16x512_o4_0_S1x512⟩, ⟨S1x512, extractStridedSlice S1x512 ![7, 0] v slices_S16x512_o7_0_S1x512⟩, ⟨S1x512, extractStridedSlice S1x512 ![6, 0] v slices_S16x512_o6_0_S1x512⟩, ⟨S1x512, extractStridedSlice S1x512 ![9, 0] v slices_S16x512_o9_0_S1x512⟩, ⟨S1x512, extractStridedSlice S1x512 ![8, 0] v slices_S16x512_o8_0_S1x512⟩, ⟨S1x512, extractStridedSlice S1x512 ![11, 0] v slices_S16x512_o11_0_S1x512⟩, ⟨S1x512, extractStridedSlice S1x512 ![10, 0] v slices_S16x512_o10_0_S1x512⟩, ⟨S1x512, extractStridedSlice S1x512 ![13, 0] v slices_S16x512_o13_0_S1x512⟩, ⟨S1x512, extractStridedSlice S1x512 ![12, 0] v slices_S16x512_o12_0_S1x512⟩, ⟨S1x512, extractStridedSlice S1x512 ![15, 0] v slices_S16x512_o15_0_S1x512⟩, ⟨S1x512, extractStridedSlice S1x512 ![14, 0] v slices_S16x512_o14_0_S1x512⟩] concatenates_S1x512_S1x512_S1x512_S1x512_S1x512_S1x512_S1x512_S1x512_S1x512_S1x512_S1x512_S1x512_S1x512_S1x512_S1x512_S1x512_S16x512_d0

/-- The row number at every place. -/
def rows : IVec S16x512 32 := iota .tc S16x512 32 [0] iota_S16x512_d0_w32

/-- One stage, given the rows and the rows exchanged: the larger where the row number's digit `d` is zero. -/
def stage (d : BitVec 32) (v w : FVec F S16x512 .f32) : FVec F S16x512 .f32 :=
  select (cmpi .eq (andi rows (broadcast S16x512 d)) (broadcast S16x512 0#32)) (maximumf v w) (minimumf v w)

/-- The larger of each pair of the meeting, -/
def met (a y : FVec F S16x512 .f32) : FVec F S16x512 .f32 := maximumf a (rev y)
/-- after the stage at distance 8, -/
def met8 (a y : FVec F S16x512 .f32) : FVec F S16x512 .f32 := stage 8#32 (met a y) (swap8 (met a y))
/-- at distance 4, -/
def met4 (a y : FVec F S16x512 .f32) : FVec F S16x512 .f32 := stage 4#32 (met8 a y) (swap4 (met8 a y))
/-- at distance 2, -/
def met2 (a y : FVec F S16x512 .f32) : FVec F S16x512 .f32 := stage 2#32 (met4 a y) (swap2 (met4 a y))
/-- and at distance 1. -/
def met1 (a y : FVec F S16x512 .f32) : FVec F S16x512 .f32 := stage 1#32 (met2 a y) (swap1 (met2 a y))

/-- The result: the merged list, row `r` of it holding the values in order. -/
def merged (a y : FVec F S16x512 .f32) : FVec F S512x16 .f32 := transpose S512x16 [1, 0] (met1 a y) transposes_S16x512_p1_0_S512x16

section Windows

variable (arg0 : Memref sig .tc .vmem S512x4096 .f32) (harg0 : arg0.IsWhole) (arg1 : Memref sig .tc .vmem S512x16 .f32) (harg1 : arg1.IsWhole)
  (arg2 : Memref sig .tc .vmem S16x512 .f32) (harg2 : arg2.IsWhole) (arg3 : Memref sig .tc .vmem S16x512 .f32) (harg3 : arg3.IsWhole)
  (arg4 : DmaSems sig S_) (arg5 : DmaSems sig S_)

/-- The device's row number in the mesh, as the kernel's text computes it, -/
def rowWord (d : Dev nD) : BitVec 32 := Scalar.remsi (Scalar.divsi (Dev.word d) 2#32) 2#32
/-- and its peer's column number. -/
def colWord (d : Dev nD) : BitVec 32 := Scalar.subi 1#32 (Scalar.remsi (Scalar.divsi (Dev.word d) 1#32) 2#32)

/-- Window 1: the handshake with the peer and the load of the block. -/
theorem window1 : k0_part1 (F := F) arg0 harg0 arg1 harg1 arg2 harg2 arg3 harg3 arg4 arg5 = (do
    let d ← Prog.lift .deviceId
    semSignalWord (⟨k0_dev1 d, k0_dev1_lt d⟩ : Dev nD) (SemArray.scalar (sig.barrier 0 rfl) : Sems sig S_).sem 1#32
    semWaitWord (SemArray.scalar (sig.barrier 0 rfl) : Sems sig S_).sem 1#32
    let x : Vec F S512x4096 .f32 ← Prog.lift (.load arg0 (Rect.unit (s := S512x4096) ![0, 0] S512x4096.size inb_S512x4096_S512x4096_0_0).toLoadRect (View.loadsAt_vmem h_S512x4096))
    pure ⟨d, rowWord d, colWord d, low1 x, low2 x, top5 x, (put (low5 x, never) (low4_5 x)).1, (put (low5 x, never) (low4_5 x)).2,
      extractStridedSlice S512x256 ![0, 0] (low3 x) slices_S512x512_o0_0_S512x256, extractStridedSlice S512x256 ![0, 256] (low3 x) slices_S512x512_o0_256_S512x256⟩) := rfl

/-- Window 13: the list is stored. -/
theorem window13 (x : FVec F S512x4096 .f32) : k0_part13 arg0 harg0 arg1 harg1 arg2 harg2 arg3 harg3 arg4 arg5
    (m7 x 6) (m7 x 7) (m7 x 14) (m7 x 15) (c7_8 x 0) (c7_8 x 8) (c7_8 x 1) (c7_8 x 9) (c7_8 x 2) (c7_8 x 10) (c7_8 x 3) (c7_8 x 11) (c7_8 x 4) (c7_8 x 12) (c7_8 x 5) (c7_8 x 13) = (do
    let _ : Vec F S16x512 .f32 ← Prog.lift (.load arg2 (Rect.unit (s := S16x512) ![0, 0] S16x512.size inb_S16x512_S16x512_0_0).toLoadRect (View.loadsAt_vmem h_S16x512))
    Prog.lift (.store arg2 (Rect.unit (s := S16x512) ![0, 0] S16x512.size inb_S16x512_S16x512_0_0) (sent x) Finset.univ (View.stores_vmem_bits_univ h_S16x512 rfl) (.inl rfl))
    pure ⟨cand x, 2#32⟩) := rfl

/-- Window 14: the list is sent to the peer, the peer's is received and read, and the merge begins. -/
theorem window14 (d : Dev nD) (r k c : BitVec 32) (a : FVec F S16x512 .f32) : k0_part14 arg0 harg0 arg1 harg1 arg2 harg2 arg3 harg3 arg4 arg5 d r k a c = (do
    Prog.lift (.enqueueDma arg2 (.remote (Dev.tc (⟨k0_dev2 d, k0_dev2_lt d⟩ : Dev nD)) arg3 (.dma arg4.sem)) (.dma arg5.sem) harg2.wordExact harg3.wordExact ⟨⟨rfl, Or.inl rfl⟩, trivial⟩)
    Prog.lift (.waitDma2 arg5.sem arg2 arg3 harg2.wordExact harg3.wordExact)
    let y : Vec F S16x512 .f32 ← Prog.lift (.load arg3 (Rect.unit (s := S16x512) ![0, 0] S16x512.size inb_S16x512_S16x512_0_0).toLoadRect (View.loadsAt_vmem h_S16x512))
    pure ⟨rows, maximumf (met8 a y) (swap4 (met8 a y)), minimumf (met8 a y) (swap4 (met8 a y)), andi rows (broadcast S16x512 4#32), 0#32⟩) := rfl

/-- The kernel's program in the names above. -/
def body : Prog (TpuEff nD τ sig (Elt F) Λ₀ .tc) PUnit := do
  let d ← Prog.lift .deviceId
  semSignalWord (⟨k0_dev1 d, k0_dev1_lt d⟩ : Dev nD) (SemArray.scalar (sig.barrier 0 rfl) : Sems sig S_).sem 1#32
  semWaitWord (SemArray.scalar (sig.barrier 0 rfl) : Sems sig S_).sem 1#32
  let x : Vec F S512x4096 .f32 ← Prog.lift (.load arg0 (Rect.unit (s := S512x4096) ![0, 0] S512x4096.size inb_S512x4096_S512x4096_0_0).toLoadRect (View.loadsAt_vmem h_S512x4096))
  let _ : Vec F S16x512 .f32 ← Prog.lift (.load arg2 (Rect.unit (s := S16x512) ![0, 0] S16x512.size inb_S16x512_S16x512_0_0).toLoadRect (View.loadsAt_vmem h_S16x512))
  Prog.lift (.store arg2 (Rect.unit (s := S16x512) ![0, 0] S16x512.size inb_S16x512_S16x512_0_0) (sent x) Finset.univ (View.stores_vmem_bits_univ h_S16x512 rfl) (.inl rfl))
  Prog.lift (.enqueueDma arg2 (.remote (Dev.tc (⟨k0_dev2 d, k0_dev2_lt d⟩ : Dev nD)) arg3 (.dma arg4.sem)) (.dma arg5.sem) harg2.wordExact harg3.wordExact ⟨⟨rfl, Or.inl rfl⟩, trivial⟩)
  Prog.lift (.waitDma2 arg5.sem arg2 arg3 harg2.wordExact harg3.wordExact)
  let y : Vec F S16x512 .f32 ← Prog.lift (.load arg3 (Rect.unit (s := S16x512) ![0, 0] S16x512.size inb_S16x512_S16x512_0_0).toLoadRect (View.loadsAt_vmem h_S16x512))
  let _ : Vec F S512x16 .f32 ← Prog.lift (.load arg1 (Rect.unit (s := S512x16) ![0, 0] S512x16.size inb_S512x16_S512x16_0_0).toLoadRect (View.loadsAt_vmem h_S512x16))
  Prog.lift (.store arg1 (Rect.unit (s := S512x16) ![0, 0] S512x16.size inb_S512x16_S512x16_0_0) (merged (cand x) y) Finset.univ (View.stores_vmem_bits_univ h_S512x16 rfl) (.inl rfl))
  Prog.lift (.waitDma2 arg4.sem arg3 arg2 harg3.wordExact harg2.wordExact)
  pure ⟨⟩

/-- What the last window and the final store make of the stages at distances 4, 2 and 1. -/
theorem last_eq (a y : FVec F S16x512 .f32) :
    k0_pay1 (k0_pay565 rows (maximumf (met8 a y) (swap4 (met8 a y))) (minimumf (met8 a y) (swap4 (met8 a y))) (andi rows (broadcast S16x512 4#32)) 0#32)
      (k0_pay566 rows (maximumf (met8 a y) (swap4 (met8 a y))) (minimumf (met8 a y) (swap4 (met8 a y))) (andi rows (broadcast S16x512 4#32)) 0#32)
      (k0_pay567 rows) = merged a y := rfl

/-- The kernel's printed program is `body`. -/
theorem body_eq : cc0_body (F := F) arg0 harg0 arg1 harg1 arg2 harg2 arg3 harg3 arg4 arg5 = body arg0 arg1 arg2 harg2 arg3 harg3 arg4 arg5 := by
  rw [cc0_body_eq_skeleton]
  unfold cc0_body_skel
  rw [k0_part15_eq_skeleton]
  unfold k0_part15_skel
  rw [window1]
  simp only [Prog.lift, Prog.bind_op, Prog.bind_ret, Prog.pure_eq_ret, semSignalWord, semWaitWord]
  simp only [window2, Prog.pure_eq_ret, Prog.bind_ret]
  simp only [window3, Prog.pure_eq_ret, Prog.bind_ret]
  simp only [window4, Prog.pure_eq_ret, Prog.bind_ret]
  simp only [window5, Prog.pure_eq_ret, Prog.bind_ret]
  simp only [window6, Prog.pure_eq_ret, Prog.bind_ret]
  simp only [window7, Prog.pure_eq_ret, Prog.bind_ret]
  simp only [window8, Prog.pure_eq_ret, Prog.bind_ret]
  simp only [window9, Prog.pure_eq_ret, Prog.bind_ret]
  simp only [window10, Prog.pure_eq_ret, Prog.bind_ret]
  simp only [window11, Prog.pure_eq_ret, Prog.bind_ret]
  simp only [window12, Prog.pure_eq_ret, Prog.bind_ret]
  simp only [window13, Prog.lift, Prog.pure_eq_ret, Prog.bind_op, Prog.bind_ret]
  simp only [window14, Prog.lift, Prog.pure_eq_ret, Prog.bind_op, Prog.bind_ret]
  simp only [last_eq]
  unfold body
  simp only [Prog.lift, Prog.bind_op, Prog.bind_ret, Prog.pure_eq_ret, semSignalWord, semWaitWord]

end Windows

end Cert.TopK

end
-- ==== Proof.Protocol.lean ====
/-
# The exchange, written down

The four devices form a 2 × 2 mesh; device `c` talks only to `peer c`, the other device of its row. Three
semaphore counters of a device matter, and each is raised once and waited on once:

* the barrier counter of `c` is raised by one by `peer c`. That raise says "my receive buffer is yours to
  write, and nothing has come into it yet", so what comes with it is the peer's receive buffer, at any contents;
* the receive counter of `c` is raised by the peer's transfer when it has landed. With it comes `c`'s receive
  buffer, now holding the peer's list;
* the send counter of `c` is raised by `c`'s own transfer when its source has been read. With it comes `c`'s
  list buffer back, unchanged.

`exchange` states this as a schedule of one round, with the contents. `program_sound` runs one device's program
against it, at a symbolic device and over any float values.
-/
module

public import proofs.«01_k».proof.Proof.Merge
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.TopK

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The ghost state: one component for the staging of the blocks, one for the exchange. -/
abbrev Ghost : Type := UR sig nD τ × UR sig nD τ

local notation "𝕄" => MT nD τ sig Unit (Elt F) ℕ Ghost ℕ

/-- Where the staging's component lies, -/
abbrev stageEmb : Emb (UR sig nD τ) (MT nD τ sig Unit (Elt F) ℕ Ghost ℕ) := embL
/-- and the exchange's. -/
abbrev exEmb : Emb (UR sig nD τ) (MT nD τ sig Unit (Elt F) ℕ Ghost ℕ) := embR

variable (m : (ℓ : Loc nD τ sig) → Buf (Elt F) ℓ) (ρ : Dev nD → PrngReg)

/-! ## Devices -/

/-- The other device of `c`'s row. -/
def peer (c : Dev nD) : Dev nD := ⟨2 * (c.val / 2) + (1 - c.val % 2), by have := c.isLt; revert this; generalize c.val = v; decide +revert⟩

/-- The peer's peer is the device itself. -/
theorem peer_peer (c : Dev nD) : peer (peer c) = c := by revert c; decide

/-- The device the program signals is the peer, -/
theorem signalled_eq (c : Dev nD) : (⟨k0_dev1 c, k0_dev1_lt c⟩ : Dev nD) = peer c := by revert c; decide
/-- and so is the device it sends to. -/
theorem addressed_eq (c : Dev nD) : (⟨k0_dev2 c, k0_dev2_lt c⟩ : Dev nD) = peer c := by revert c; decide

/-- Taking peers permutes the devices. -/
def peers : Dev nD ≃ Dev nD := ⟨peer, peer, peer_peer, peer_peer⟩

/-! ## Buffers and counters -/

/-- The list buffer, -/
abbrev listM : Memref sig .tc .vmem S16x512 .f32 := Memref.whole cc0_scratch0
/-- the receive buffer, -/
abbrev recvM : Memref sig .tc .vmem S16x512 .f32 := Memref.whole cc0_scratch1
/-- the block of `x` as staged, -/
abbrev xM : Memref sig .tc .vmem S512x4096 .f32 := Memref.whole cc0_stg0_0
/-- and the result as staged. -/
abbrev outM : Memref sig .tc .vmem S512x16 .f32 := Memref.whole cc0_stg1_0

/-- A device's three counters: 0 is the barrier's, 1 the send's, 2 the receive's. -/
abbrev counter : Fin 3 → SemLoc sig := fun
  | 0 => .reg (SemArray.scalar (sig.barrier 0 rfl) : Sems sig S_).sem
  | 1 => .dma (cc0_scratch2 : DmaSems sig S_).sem
  | 2 => .dma (cc0_scratch3 : DmaSems sig S_).sem
/-- Counter `k` of device `c`. -/
abbrev cellAt (ck : Dev nD × Fin 3) : GSem nD τ sig := ((ck.1 : Thread nD τ), counter ck.2)

/-- The three counters are different semaphores. -/
theorem counter_injective : Function.Injective counter := by decide

/-- The twelve counters of the four devices are all different. -/
theorem cellAt_injective : Function.Injective (cellAt : Dev nD × Fin 3 → GSem nD τ sig) := by
  rintro ⟨c, k⟩ ⟨d, l⟩ h
  obtain rfl : c = d := congrArg (fun g : GSem nD τ sig => g.1.1) h
  obtain rfl : k = l := counter_injective (congrArg Prod.snd h)
  rfl

/-- What a transfer of a list adds to a counter. -/
abbrev credit : ℕ := (recvM : Memref sig .tc .vmem S16x512 .f32).view.dmaCredit
/-- A transfer adds something to a counter. -/
theorem credit_pos : 0 < credit := View.dmaCredit_pos _ (by decide)
/-- Counters with different numbers are different semaphores. -/
theorem counters_ne {k l : Fin 3} (h : k ≠ l) : counter k ≠ counter l := fun e => h (counter_injective e)

/-! ## Contents -/

/-- Device `c`'s block of `x`. -/
def blockOf (c : Dev nD) : FVec F S512x4096 .f32 :=
  (win0_0.blk (0 : Fin 1)).view.read (Elt F) ((⟨m, fun _ => 0, ρ⟩ : MemSt nD τ sig (Elt F)).mem ((c : Thread nD τ).loc main_arg0))

/-- Device `c`'s list, as it is stored and sent. -/
def listOf (c : Dev nD) : (cc0_scratch0 : Ref sig .tc).ty.Contents (Elt F) := sent (blockOf m ρ c)

/-- Device `c`'s result. -/
def resultOf (c : Dev nD) : (cc0_stg1_0 : Ref sig .tc).ty.Contents (Elt F) := merged (cand (blockOf m ρ c)) (sent (blockOf m ρ (peer c)))

/-- Device `c` holds its list buffer, with contents `f`. -/
def holdsList (c : Dev nD) (f : Buf (Elt F) ((listM : Memref sig .tc .vmem S16x512 .f32).view.loc (c : Thread nD τ))) : sProp 𝕄 :=
  (listM : Memref sig .tc .vmem S16x512 .f32).view.loc (c : Thread nD τ) ↦[(listM : Memref sig .tc .vmem S16x512 .f32).view.set]{fullShare} f
/-- Device `c`'s receive buffer is held, with contents `f`. -/
def holdsRecv (c : Dev nD) (f : Buf (Elt F) ((recvM : Memref sig .tc .vmem S16x512 .f32).view.loc (c : Thread nD τ))) : sProp 𝕄 :=
  (recvM : Memref sig .tc .vmem S16x512 .f32).view.loc (c : Thread nD τ) ↦[(recvM : Memref sig .tc .vmem S16x512 .f32).view.set]{fullShare} f

omit [FloatOps F] in
/-- Holding the list buffer is owning the whole of that buffer with these contents. -/
theorem holdsList_eq (c : Dev nD) (f) : holdsList c f = (((c : Thread nD τ).loc cc0_scratch0) ↦{fullShare} f : sProp 𝕄) := by
  unfold holdsList; rw [View.set_whole]
omit [FloatOps F] in
/-- Holding the receive buffer is owning the whole of that buffer with these contents. -/
theorem holdsRecv_eq (c : Dev nD) (f) : holdsRecv c f = (((c : Thread nD τ).loc cc0_scratch1) ↦{fullShare} f : sProp 𝕄) := by
  unfold holdsRecv; rw [View.set_whole]

omit [FloatOps F] in
/-- This may be stored in a rule. -/
instance (c : Dev nD) (f) : BI.Storable (upEmb : UEmb _ 𝕄) (holdsList (F := F) c f) := by unfold holdsList; infer_instance
omit [FloatOps F] in
/-- This may be stored in a rule. -/
instance (c : Dev nD) (f) : BI.Storable (upEmb : UEmb _ 𝕄) (holdsRecv (F := F) c f) := by unfold holdsRecv; infer_instance

omit [FloatOps F] in
/-- A list that lands fills the receive buffer whole. -/
theorem landing (c : Dev nD) (fd : Buf (Elt F) ((recvM : Memref sig .tc .vmem S16x512 .f32).view.loc (c : Thread nD τ))) (fs : (cc0_scratch0 : Ref sig .tc).ty.Contents (Elt F)) :
    (recvM : Memref sig .tc .vmem S16x512 .f32).view.write (Elt F) fd ((listM : Memref sig .tc .vmem S16x512 .f32).view.read (Elt F) fs) Finset.univ = fs := by
  show (View.whole cc0_scratch1).write (Elt F) fd ((View.whole cc0_scratch0).read (Elt F) fs) Finset.univ = fs
  rw [View.read_whole]; exact View.write_whole_univ _ _ _

/-! ## The schedule -/

/-- What comes with a raise of counter `k` of device `c`. -/
def comesWith (c : Dev nD) : Fin 3 → sProp 𝕄
  | 0 => iprop((∃ f, holdsRecv (peer c) f) ∗ reached exEmb (cellAt (peer c, 2)) 0)
  | 1 => holdsList c (listOf m ρ c)
  | 2 => holdsRecv c (listOf m ρ (peer c))

/-- This may be stored in a rule. -/
instance (c : Dev nD) (k : Fin 3) : BI.Storable (upEmb : UEmb _ 𝕄) (comesWith (F := F) m ρ c k) := by
  fin_cases k <;> (unfold comesWith; infer_instance)

/-- Which of the three counters a semaphore is, if any. -/
def which (s : SemLoc sig) : Option (Fin 3) := (List.finRange 3).find? fun k => counter k = s

/-- Counter `k` is recognised as number `k`. -/
theorem which_counter (k : Fin 3) : which (counter k) = some k := by revert k; decide

/-- One round; every one of the twelve counters is raised once in it, the barriers by one, the others by a
transfer's credit. -/
def exchange : Rounds.Schedule (GSem nD τ sig) Unit 𝕄 where
  duties g r := if r = 0 ∧ g.1.2 = .tc ∧ (which g.2).isSome then {()} else ∅
  unitless _ := False
  amount g _ _ := if which g.2 = some 0 then 1 else credit
  payload g _ _ := (which g.2).elim iprop(emp) (comesWith m ρ g.1.1)
  amount_pos g _ _ _ := by split_ifs; exacts [Nat.one_pos, credit_pos]

/-- This may be stored in a rule. -/
instance (g : GSem nD τ sig) (r : ℕ) (d : Unit) : BI.Storable (upEmb : UEmb _ 𝕄) ((exchange (F := F) m ρ).payload g r d) := by
  show BI.Storable upEmb ((which g.2).elim iprop(emp) (comesWith m ρ g.1.1))
  cases which g.2 <;> (dsimp only [Option.elim]; infer_instance)

/-- What counter `k` is raised by. -/
abbrev raise (k : Fin 3) : ℕ := if k = 0 then 1 else credit

section Schedule

variable (c : Dev nD) (k : Fin 3)

/-- Every counter is raised in the one round; -/
theorem tok_mem : () ∈ (exchange (F := F) m ρ).duties (cellAt (c, k)) 0 := by
  dsimp only [exchange]; rw [if_pos ⟨rfl, rfl, by rw [which_counter]; rfl⟩]; exact Finset.mem_singleton_self _
/-- it is raised exactly once in it; -/
theorem duties_eq : (exchange (F := F) m ρ).duties (cellAt (c, k)) 0 = {()} := by
  dsimp only [exchange]; exact if_pos ⟨rfl, rfl, by rw [which_counter]; rfl⟩
/-- after that round nothing raises any counter. -/
theorem duties_after (g : GSem nD τ sig) : ∀ r, 1 ≤ r → (exchange (F := F) m ρ).duties g r = ∅ :=
  fun r hr => by dsimp only [exchange]; exact if_neg fun h => by omega
/-- The raise is by one at the barrier and by a transfer's credit elsewhere, -/
theorem amount_eq : (exchange (F := F) m ρ).amount (cellAt (c, k)) 0 () = raise k := by
  dsimp only [exchange]; rw [which_counter]; exact if_congr ⟨fun h => Option.some.inj h, fun h => h ▸ rfl⟩ rfl rfl
/-- and that is all the counter collects in the round. -/
theorem expect_eq : (exchange (F := F) m ρ).expect (cellAt (c, k)) 0 = raise k := by
  unfold Schedule.expect Schedule.amountOf; rw [duties_eq, Finset.sum_singleton, amount_eq]
/-- With the raise comes what the schedule says comes with it, -/
theorem payload_eq : (exchange (F := F) m ρ).payload (cellAt (c, k)) 0 () = comesWith m ρ c k := by
  dsimp only [exchange]; rw [which_counter]; rfl
/-- and that is all that the round brings. -/
theorem rest_eq : bigSep ((exchange (F := F) m ρ).duties (cellAt (c, k)) 0 \ ∅) (fun u => (exchange (F := F) m ρ).payload (cellAt (c, k)) 0 u) = comesWith m ρ c k := by
  rw [Finset.sdiff_empty, duties_eq, bigSep_singleton, payload_eq]

end Schedule

/-! ## What is owed, and the order of the waits -/

/-- Device `c` owes its peer's receive counter a transfer and its peer's barrier one. -/
def owedBy (c : Dev nD) : CellTallies nD τ sig Unit := tallyAt (cellAt (peer c, 2)) () credit + tallyAt (cellAt (peer c, 0)) () 1

/-- Every core's counters have one source of raises. -/
def sources (g : GSem nD τ sig) : Finset Unit := if g.1.2 = .tc then {()} else ∅
/-- A wait on a lower counter may be made while a higher one is owed: the barrier stands below the receive. -/
def level (g : GSem nD τ sig) (_ : Unit) : ℕ := match which g.2 with | some 0 => 1 | some 2 => 2 | _ => 0

/-- Threads other than the cores have counters without a source of raises; -/
theorem sources_other (g : GSem nD τ sig) (h : g.1.2 ≠ .tc) : sources g = ∅ := if_neg h
/-- a core's counters have the one source. -/
theorem mem_sources (c : Dev nD) (s : SemLoc sig) (u : Unit) : u ∈ sources ((c : Thread nD τ), s) := by
  rw [sources, if_pos rfl]; exact Finset.mem_singleton_self _

/-- What a device owes, it owes to its peer's receive counter or to its peer's barrier. -/
theorem owed_cases {c : Dev nD} {g : GSem nD τ sig} {u : Unit} (h : 0 < owedBy c g u) : g = cellAt (peer c, 2) ∨ g = cellAt (peer c, 0) := by
  unfold owedBy at h
  rw [Pi.add_apply, Finsupp.add_apply, tallyAt_apply, tallyAt_apply] at h
  by_contra hn; rw [not_or] at hn
  rw [if_neg (fun e => hn.1 e.1), if_neg (fun e => hn.2 e.1)] at h
  exact Nat.lt_irrefl 0 h

omit [FloatOps F] in
/-- A staging wait lies below everything owed. -/
theorem mayWait_staging (c : Dev nD) (q : DmaSem sig) (hq : which (.dma q) = none) (O : CellTallies nD τ sig Unit) (hO : O = owedBy c ∨ O = 0) :
    (levAts sources level : sProp 𝕄) ⊢ MayWait (c : Thread nD τ) (.dma q) () O := by
  rcases hO with rfl | rfl
  · refine MayOwe.of_cut (L := sources) (lev := level) 0 (fun p hp => by rw [Finset.mem_singleton.mp hp]; exact mem_sources _ _ _)
      (fun g u hg => by rcases owed_cases hg with rfl | rfl <;> exact mem_sources _ _ _)
      (fun p hp => by rw [Finset.mem_singleton.mp hp]; dsimp only [level]; rw [hq])
      (fun g u hg => by rcases owed_cases hg with rfl | rfl <;> (dsimp only [level]; rw [which_counter]; decide))
  · rw [MayWait_zero]; iintro -; iempintro

omit [FloatOps F] in
/-- The barrier's wait lies below the transfer still owed. -/
theorem mayWait_barrier (c : Dev nD) : (levAts sources level : sProp 𝕄) ⊢ MayWait (c : Thread nD τ) (counter 0) () (tallyAt (cellAt (peer c, 2)) () credit) := by
  have key : ∀ (g : GSem nD τ sig) (u : Unit), 0 < (tallyAt (cellAt (peer c, 2)) () credit : CellTallies nD τ sig Unit) g u → g = cellAt (peer c, 2) := fun g u hg => by
    by_contra h; rw [tallyAt_apply, if_neg (fun e => h e.1)] at hg; exact Nat.lt_irrefl 0 hg
  exact MayOwe.of_cut (L := sources) (lev := level) 1 (fun p hp => by rw [Finset.mem_singleton.mp hp]; exact mem_sources _ _ _)
    (fun g u hg => by rw [key g u hg]; exact mem_sources _ _ _)
    (fun p hp => by rw [Finset.mem_singleton.mp hp]; dsimp only [level]; rw [which_counter]; exact le_refl 1)
    (fun g u hg => by rw [key g u hg]; dsimp only [level]; rw [which_counter]; decide)

/-! ## What a device starts and ends with -/

/-- The grid has one point. -/
theorem cfg0_N : cfg0.N = 1 := by decide
/-- The only point of the grid. -/
def pt : Fin cfg0.N := ⟨0, by rw [cfg0_N]; decide⟩
/-- Every point of the grid is that one. -/
theorem eq_pt (t : Fin cfg0.N) : t = pt := by obtain ⟨t, ht⟩ := t; have := cfg0_N; exact Fin.ext (by simp only [pt]; omega)

/-- The rules of the counters device `c` touches: its own three, and its peer's barrier and receive. -/
def rules (K : Dev nD × Fin 3 → ℕ) (c : Dev nD) : sProp 𝕄 :=
  iprop(cellInv exEmb (exchange m ρ) (K (c, 0)) (cellAt (c, 0)) ∗ cellInv exEmb (exchange m ρ) (K (c, 1)) (cellAt (c, 1)) ∗ cellInv exEmb (exchange m ρ) (K (c, 2)) (cellAt (c, 2))
    ∗ cellInv exEmb (exchange m ρ) (K (peer c, 0)) (cellAt (peer c, 0)) ∗ cellInv exEmb (exchange m ρ) (K (peer c, 2)) (cellAt (peer c, 2)))

/-- The rules may be kept while they are used. -/
instance rules_persistent (K : Dev nD × Fin 3 → ℕ) (c : Dev nD) : BI.Persistent (rules m ρ K c) := by unfold rules; infer_instance

/-- The raises device `c` has to make: its peer's barrier, its peer's receive, its own send. -/
def toRaise (c : Dev nD) : sProp 𝕄 := iprop(dutyTok exEmb (cellAt (peer c, 0)) 0 () ∗ dutyTok exEmb (cellAt (peer c, 2)) 0 () ∗ dutyTok exEmb (cellAt (c, 1)) 0 ())

/-- Everything of the exchange that is device `c`'s at the start. -/
def share (K : Dev nD × Fin 3 → ℕ) (c : Dev nD) : sProp 𝕄 :=
  iprop(rules m ρ K c
    ∗ (atPos exEmb (cellAt (c, 0)) 0 ∅ 0 ∗ atPos exEmb (cellAt (c, 1)) 0 ∅ 0 ∗ atPos exEmb (cellAt (c, 2)) 0 ∅ 0)
    ∗ (reached exEmb (cellAt (peer c, 0)) 0 ∗ reached exEmb (cellAt (peer c, 2)) 0 ∗ reached exEmb (cellAt (c, 1)) 0 ∗ reached exEmb (cellAt (c, 2)) 0)
    ∗ toRaise c)

/-- That, with the raises device `c` may expect and the order of the waits. -/
def atStart (c : Dev nD) : sProp 𝕄 :=
  iprop((∃ K, share m ρ K c) ∗ cred (tallyAt (cellAt (c, 0)) () 1) ∗ cred (tallyAt (cellAt (c, 2)) () credit) ∗ levAts sources level)

/-- Before the program, with the two scratch buffers at any contents; -/
def before (c : Dev nD) : sProp 𝕄 := iprop(atStart m ρ c ∗ (∃ f, holdsList c f) ∗ (∃ f, holdsRecv c f))
/-- after it, with the scratch buffers' contents and every counter at zero. -/
def after (c : Dev nD) : sProp 𝕄 :=
  iprop(holdsList c (listOf m ρ c) ∗ holdsRecv c (listOf m ρ (peer c)) ∗ semVal (cellAt (c, 0)) 0 ∗ semVal (cellAt (c, 1)) 0 ∗ semVal (cellAt (c, 2)) 0)

/-- The proof's data for the region: the staged block, the result, the two states above. -/
def dat (_ : Fin 1) (c : Dev nD) : Dat τ (Elt F) Unit ℕ Ghost ℕ cfg0 c where
  A w := (⟨m, fun _ => 0, ρ⟩ : MemSt nD τ sig (Elt F)).mem ((cfg0.win w).arr.view.loc (c : Thread nD τ))
  after w _ := match w with
    | ⟨0, _⟩ => blockOf m ρ c
    | ⟨1, _⟩ => resultOf m ρ c
  Φ t := match t with
    | ⟨0, _⟩ => before m ρ c
    | ⟨_ + 1, _⟩ => after m ρ c
  q _ := fullShare
  owed t := match t with
    | ⟨0, _⟩ => owedBy c
    | ⟨_ + 1, _⟩ => 0

/-- The program calls no function of its own. -/
abbrev noCalls : Variants := Variants.none

/-- The block of `x` is fetched at the only point. -/
theorem fetched (t : Fin cfg0.N) : (cfg0.win (0 : Fin 2)).fetch t = true := by rw [eq_pt t]; rfl

omit [FloatOps F] in
/-- Owning a whole buffer as a memory reference is owning its location with the contents named. -/
theorem owns_whole (c : Dev nD) (b : Ref sig .tc) (X : b.ty.Contents (Elt F)) :
    (owns (Ix := Unit) (Name := ℕ) (U := Ghost) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-! ## The program -/

section Program

variable (K : Dev nD × Fin 3 → ℕ)

omit [FloatOps F] in
/-- The offsets written `0, 0` are zero in both dimensions. -/
theorem origin : (![0, 0] : Fin 2 → Nat) = fun _ => 0 := funext fun a => by fin_cases a <;> rfl
omit [FloatOps F] in
/-- A load of the whole staged block reads its contents; -/
theorem load_x (f : (cc0_stg0_0 : Ref sig .tc).ty.Contents (Elt F)) :
    (xM : Memref sig .tc .vmem S512x4096 .f32).view.readAt (Elt F) (Rect.unit (s := S512x4096) ![0, 0] S512x4096.size inb_S512x4096_S512x4096_0_0).toLoadRect f = f :=
  Memref.readAt_unit_zero (Elt F) cc0_stg0_0 origin _ f
omit [FloatOps F] in
/-- a load of the whole receive buffer reads its contents; -/
theorem load_recv (f : (cc0_scratch1 : Ref sig .tc).ty.Contents (Elt F)) :
    (recvM : Memref sig .tc .vmem S16x512 .f32).view.readAt (Elt F) (Rect.unit (s := S16x512) ![0, 0] S16x512.size inb_S16x512_S16x512_0_0).toLoadRect f = f :=
  Memref.readAt_unit_zero (Elt F) cc0_scratch1 origin _ f
omit [FloatOps F] in
/-- a store to the whole list buffer leaves what was stored; -/
theorem store_list (f w : (cc0_scratch0 : Ref sig .tc).ty.Contents (Elt F)) :
    ((listM : Memref sig .tc .vmem S16x512 .f32).access (Rect.unit (s := S16x512) ![0, 0] S16x512.size inb_S16x512_S16x512_0_0) : View sig .tc _ _ _).write (Elt F) f w Finset.univ = w :=
  Memref.write_access_unit_zero_univ (Elt F) cc0_scratch0 origin _ f w
omit [FloatOps F] in
/-- a store to the whole staged result leaves what was stored. -/
theorem store_out (f w : (cc0_stg1_0 : Ref sig .tc).ty.Contents (Elt F)) :
    ((outM : Memref sig .tc .vmem S512x16 .f32).access (Rect.unit (s := S512x16) ![0, 0] S512x16.size inb_S512x16_S512x16_0_0) : View sig .tc _ _ _).write (Elt F) f w Finset.univ = w :=
  Memref.write_access_unit_zero_univ (Elt F) cc0_stg1_0 origin _ f w

/-- The transfer: it takes the list buffer and the peer's receive buffer, and settles what was owed. -/
theorem transfer (c n : Dev nD) (hn : n = peer c) {hsc : (recvM : Memref sig (Dev.tc n : Thread nD τ).2.kind .vmem S16x512 .f32).view.ref.isScScratch = false}
    {hsrc : (listM : Memref sig .tc .vmem S16x512 .f32).view.WordExact} {hdst : (recvM : Memref sig .tc .vmem S16x512 .f32).view.WordExact}
    {hsem : DmaTarget.Typed .vmem (counter 2) (.remote (Dev.tc n : Thread nD τ) (recvM : Memref sig .tc .vmem S16x512 .f32) (counter 1) hsc)}
    {α : Type} {Q : α → sProp 𝕄} {k : PUnit → Prog (TpuEff nD τ sig (Elt F) Λ₀ .tc) α}
    (fn : Buf (Elt F) ((recvM : Memref sig .tc .vmem S16x512 .f32).view.loc (peer c : Thread nD τ))) (W : Waits sig Unit) :
    iprop(cellInv exEmb (exchange m ρ) (K (c, 1)) (cellAt (c, 1)) ∗ cellInv exEmb (exchange m ρ) (K (peer c, 2)) (cellAt (peer c, 2))
        ∗ holdsList c (listOf m ρ c) ∗ holdsRecv (peer c) fn ∗ owes (c : Thread nD τ) (tallyAt (cellAt (peer c, 2)) () credit) W
        ∗ dutyTok exEmb (cellAt (c, 1)) 0 () ∗ reached exEmb (cellAt (c, 1)) 0 ∗ dutyTok exEmb (cellAt (peer c, 2)) 0 () ∗ reached exEmb (cellAt (peer c, 2)) 0)
      ⊢ iprop(((cred (tallyAt (cellAt (c, 1)) () credit) ∗ owes (c : Thread nD τ) 0 W) -∗ wp frame (wpE (defs₀ (F := F)) noCalls (c : Thread nD τ) none) Set.univ (k ⟨⟩) Q)
          -∗ wp frame (wpE (defs₀ (F := F)) noCalls (c : Thread nD τ) none) Set.univ
              (.op (.enqueueDma listM (.remote (Dev.tc n : Thread nD τ) recvM (counter 1) hsc) (counter 2) hsrc hdst hsem) k) Q) := by
  subst hn
  unfold holdsList holdsRecv
  exact Rounds.wp_send_pointsTo noCalls exEmb (exchange m ρ) (c : Thread nD τ) none (κ₁ := K (c, 1)) (κ₂ := K (peer c, 2))
    (r₁ := 0) (r₂ := 0) (d₁ := ()) (d₂ := ()) (fd := fn)
    (tok_mem m ρ c 1) (tok_mem m ρ (peer c) 2)
    () () credit rfl (amount_eq m ρ c 1) (amount_eq m ρ (peer c) 2) 0 (by rw [zero_add]) (W := W)
    (by rw [payload_eq]; exact BI.Entails.refl _)
    (by rw [payload_eq]; unfold comesWith holdsRecv; rw [landing, peer_peer])

/-- A staged buffer of device `c` with contents `X`. -/
abbrev staged (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- What the program takes, -/
def consumes (c : Dev nD) : sProp 𝕄 :=
  iprop((share m ρ K c ∗ cred (tallyAt (cellAt (c, 0)) () 1) ∗ cred (tallyAt (cellAt (c, 2)) () credit) ∗ levAts sources level)
    ∗ ((∃ f, holdsList c f) ∗ (∃ f, holdsRecv c f))
    ∗ (dat m ρ 0 c).owesAt () pt.castSucc
    ∗ (∃ d, staged c cc0_stg0_0 ((dat m ρ 0 c).before (0 : Fin 2) pt d))
    ∗ (∃ d, staged c cc0_stg1_0 ((dat m ρ 0 c).before (1 : Fin 2) pt d)))
/-- and what it gives back. -/
def yields (c : Dev nD) : sProp 𝕄 :=
  iprop(after m ρ c ∗ (dat m ρ 0 c).owesAt () pt.succ ∗ staged c cc0_stg0_0 (blockOf m ρ c) ∗ staged c cc0_stg1_0 (resultOf m ρ c))

set_option maxHeartbeats 1600000 in
/-- One device's program, run against the schedule. -/
theorem program_sound (c : Dev nD) (Kt : PUnit → sProp 𝕄) :
    iprop(consumes m ρ K c ∗ (yields m ρ c -∗ Kt ⟨⟩))
      ⊢ wp frame (wpE (defs₀ (F := F)) noCalls c none) Set.univ
          (cc0_body (Memref.whole cc0_stg0_0) (Memref.isWhole_whole _) (Memref.whole cc0_stg1_0) (Memref.isWhole_whole _)
            (Memref.whole cc0_scratch0) (Memref.isWhole_whole _) (Memref.whole cc0_scratch1) (Memref.isWhole_whole _) cc0_scratch2 cc0_scratch3) Kt := by
  rw [body_eq]; unfold body
  simp only [semSignalWord, semWaitWord, Prog.lift, Prog.bind_op, Prog.bind_ret, Prog.pure_eq_ret, wp_deviceId]
  unfold consumes share rules toRaise
  iintro ⟨⟨⟨⟨⟨#I0, #I1, #I2, #J0, #J2⟩, ⟨P0, P1, P2⟩, ⟨#Q0, #Q2, #R1, #R2⟩, T0, T2, T1⟩, C0, C2, #Lv⟩, ⟨⟨%f0, Hl⟩, ⟨%f1, Hr⟩⟩, Ho, ⟨%d0, %g0, %hg0, Hx⟩, ⟨%d1, %g1, %hg1, Hout⟩⟩, Hk⟩
  have hx : g0 = blockOf m ρ c := by rw [hg0]; unfold Dat.before; rw [if_pos (fetched pt)]; rfl
  subst hx
  unfold Dat.owesAt Pipeline.owesWithin
  icases Ho with ⟨%W, %hW, HO⟩
  rw [show (dat m ρ 0 c).owed pt.castSucc = owedBy c from rfl]
  simp only [signalled_eq c]
  -- the raise of the peer's barrier hands over this device's receive buffer
  iapply (Rounds.wp_signal noCalls exEmb (exchange m ρ) (c : Thread nD τ) none (dst := (peer c : Thread nD τ)) (κ := K (peer c, 0))
      (tok_mem m ρ (peer c) 0) ((amount_eq m ρ (peer c) 0).trans (by decide)) () (tallyAt (cellAt (peer c, 2)) () credit) rfl)
    $$ [HO T0 Hr]
  · isplitr; · iexact J0
    isplitl [HO]; · iexact HO
    isplitl [T0]; · iexact T0
    isplitl [Hr]
    · iapply (Entails.of_eq (payload_eq m ρ (peer c) 0).symm)
      unfold comesWith; rw [peer_peer]
      isplitl [Hr]; · iexists f1; iexact Hr
      iexact R2
    · iexact Q0
  iintro HO
  -- the wait on the barrier brings the peer's receive buffer
  iapply (Rounds.wp_wait_rest_token noCalls exEmb (exchange m ρ) (c : Thread nD τ) none (κ := K (c, 0))
      (wpE_semWait_eq noCalls (c : Thread nD τ) none Set.univ) (Set.mem_univ _) () (O := tallyAt (cellAt (peer c, 2)) () credit) (W := W) (R := 0) (m := 0) (T := ∅)
      (by rw [expect_eq m ρ c 0]; decide)) $$ [C0 HO P0]
  · isplitr; · iexact I0
    isplitl [C0]; · iexact C0
    isplitl [HO]; · iexact HO
    isplitr; · iapply (mayWait_barrier c); iexact Lv
    iexact P0
  iintro ⟨HO, P0, -, Hpay⟩
  ihave Hp := (Entails.of_eq (rest_eq m ρ c 0)) $$ Hpay
  unfold comesWith
  icases Hp with ⟨⟨%fn, Hn⟩, -⟩
  -- the block is read, the list stored
  iapply (wp_load noCalls (c : Thread nD τ) none Set.univ (m := xM) (Finset.subset_univ _)) $$ Hx; iintro Hx
  rw [load_x]
  ihave Hl := (Entails.of_eq (holdsList_eq c f0)) $$ Hl
  iapply (wp_load noCalls (c : Thread nD τ) none Set.univ (m := listM) (Finset.subset_univ _)) $$ Hl; iintro Hl
  iapply (wp_store noCalls (c : Thread nD τ) none Set.univ (m := listM) (r := Rect.unit (s := S16x512) ![0, 0] S16x512.size inb_S16x512_S16x512_0_0) (Mk := Finset.univ) (Finset.subset_univ _)) $$ Hl; iintro Hl
  rw [store_list]
  -- the transfer
  iapply (transfer m ρ K c _ (addressed_eq c) fn (insert (counter 0, ()) W)) $$ [Hl Hn HO T1 T2]
  · isplitr; · iexact I1
    isplitr; · iexact J2
    isplitl [Hl]; · rw [holdsList_eq]; iexact Hl
    isplitl [Hn]; · iexact Hn
    isplitl [HO]; · iexact HO
    isplitl [T1]; · iexact T1
    isplitr; · iexact R1
    isplitl [T2]; · iexact T2
    iexact Q2
  iintro ⟨C1, HO⟩
  -- the wait on the receive brings this device's receive buffer with the peer's list
  iapply (Rounds.wp_wait_rest_token noCalls exEmb (exchange m ρ) (c : Thread nD τ) none (κ := K (c, 2))
      (wpE_waitDma2_eq noCalls (c : Thread nD τ) none Set.univ) (Set.mem_univ _) () (O := 0) (W := insert (counter 0, ()) W) (R := 0) (m := 0) (T := ∅)
      (by rw [Nat.zero_add, expect_eq m ρ c 2]; rfl)) $$ [C2 HO P2]
  · isplitr; · iexact I2
    isplitl [C2]; · iexact C2
    isplitl [HO]; · iexact HO
    isplitr; · rw [MayWait_zero]; iempintro
    iexact P2
  iintro ⟨HO, P2, -, Hpay⟩
  ihave Hr := (Entails.of_eq (rest_eq m ρ c 2)) $$ Hpay
  unfold comesWith
  ihave Hr := (Entails.of_eq (holdsRecv_eq c (listOf m ρ (peer c)))) $$ Hr
  iapply (wp_load noCalls (c : Thread nD τ) none Set.univ (m := recvM) (Finset.subset_univ _)) $$ Hr; iintro Hr
  rw [load_recv]
  -- the merged list is stored
  iapply (wp_load noCalls (c : Thread nD τ) none Set.univ (m := outM) (Finset.subset_univ _)) $$ Hout; iintro Hout
  iapply (wp_store noCalls (c : Thread nD τ) none Set.univ (m := outM) (r := Rect.unit (s := S512x16) ![0, 0] S512x16.size inb_S512x16_S512x16_0_0) (Mk := Finset.univ) (Finset.subset_univ _)) $$ Hout; iintro Hout
  rw [store_out]
  -- the wait on the send brings the list buffer back
  iapply (Rounds.wp_wait_rest_token noCalls exEmb (exchange m ρ) (c : Thread nD τ) none (κ := K (c, 1))
      (wpE_waitDma2_eq noCalls (c : Thread nD τ) none Set.univ) (Set.mem_univ _) () (O := 0) (W := insert (counter 2, ()) (insert (counter 0, ()) W)) (R := 0) (m := 0) (T := ∅)
      (by rw [Nat.zero_add, expect_eq m ρ c 1]; rfl)) $$ [C1 HO P1]
  · isplitr; · iexact I1
    isplitl [C1]; · iexact C1
    isplitl [HO]; · iexact HO
    isplitr; · rw [MayWait_zero]; iempintro
    iexact P1
  iintro ⟨HO, P1, -, Hpay⟩
  ihave Hl := (Entails.of_eq (rest_eq m ρ c 1)) $$ Hpay
  unfold comesWith
  -- the three counters are closed at zero
  imod (Rounds.cell_close exEmb (exchange m ρ) (Set.mem_univ (K (c, 0))) (fun h => h) (R := 0 + 1) (duties_after m ρ (cellAt (c, 0)))) $$ [P0] with Z0
  · isplitr; · iexact I0
    iexact P0
  imod (Rounds.cell_close exEmb (exchange m ρ) (Set.mem_univ (K (c, 1))) (fun h => h) (R := 0 + 1) (duties_after m ρ (cellAt (c, 1)))) $$ [P1] with Z1
  · isplitr; · iexact I1
    iexact P1
  imod (Rounds.cell_close exEmb (exchange m ρ) (Set.mem_univ (K (c, 2))) (fun h => h) (R := 0 + 1) (duties_after m ρ (cellAt (c, 2)))) $$ [P2] with Z2
  · isplitr; · iexact I2
    iexact P2
  rw [wp_ret]; imodintro
  iapply Hk
  unfold yields after Dat.owesAt Pipeline.owesWithin
  rw [show (dat m ρ 0 c).owed pt.succ = 0 from rfl]
  isplitl [Hl Hr Z0 Z1 Z2]
  · isplitl [Hl]; · iexact Hl
    isplitl [Hr]; · rw [holdsRecv_eq]; iexact Hr
    isplitl [Z0]; · iexact Z0
    isplitl [Z1] <;> iassumption
  isplitl [HO]
  · iexists (insert (counter 1, ()) (insert (counter 2, ()) (insert (counter 0, ()) W)))
    isplitr; · ipureintro; exact fun _ _ => Or.inl trivial
    iexact HO
  isplitl [Hx]
  · iexists _; isplitr; · (ipureintro; rfl)
    iexact Hx
  iexists _; isplitr; · (ipureintro; rfl)
  iexact Hout

end Program

end Cert.TopK

end
-- ==== Proof.Run.lean ====
/-
# The run of the four devices

Every device starts with its share of the exchange: the launch creates the twelve counters' rules at once,
mints one right to raise per counter and deals the rights of a row's barriers and receives across the row.
`run_main` then says that the program on the four devices always terminates, with every device's result at
`resultOf`, its block of `x` unchanged and every counter at zero — for any float values, from any memory.
-/
module

public import proofs.«01_k».proof.Proof.Protocol
public import Idealize.ShloMosaic.Lib.Pipeline.CollectiveSegs

@[expose] public section

noncomputable section

namespace Cert.TopK

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ Ghost ℕ

variable (m : (ℓ : Loc nD τ sig) → Buf (Elt F) ℓ) (ρ : Dev nD → PrngReg)

/-! ## The region's body -/

set_option maxRecDepth 4000 in
/-- What the body is handed by the region. -/
def handed (c : Dev nD) : sProp 𝕄 :=
  iprop(before m ρ c ∗ (dat m ρ 0 c).owesAt () pt.castSucc
    ∗ (∃ d, staged c cc0_stg0_0 ((dat m ρ 0 c).before (0 : Fin 2) pt d))
    ∗ (∃ d, staged c cc0_stg1_0 ((dat m ρ 0 c).before (1 : Fin 2) pt d)))

set_option maxRecDepth 4000 in
/-- The body meets the region's obligation on every device. -/
theorem body_meets (c : Dev nD) : BodyObligation (dat (F := F) m ρ 0 c) (defs₀ (F := F)) noCalls () Set.univ := fun t => by
  rw [eq_pt t]
  rw [bigSep_W0, bigSep_W0]
  simp only [owns_whole]
  show handed m ρ c ⊢ wp frame (wpE (defs₀ (F := F)) noCalls c none) Set.univ
    (cc0_body (Memref.whole cc0_stg0_0) (Memref.isWhole_whole _) (Memref.whole cc0_stg1_0) (Memref.isWhole_whole _)
      (Memref.whole cc0_scratch0) (Memref.isWhole_whole _) (Memref.whole cc0_scratch1) (Memref.isWhole_whole _) cc0_scratch2 cc0_scratch3) (fun _ => yields m ρ c)
  unfold handed before atStart
  iintro ⟨⟨⟨⟨%K, Hg⟩, C0, C2, Lv⟩, Hs⟩, Ho, Hx, Hout⟩
  iapply (program_sound m ρ K c fun _ => yields m ρ c)
  unfold consumes
  isplitr []
  · isplitl [Hg C0 C2 Lv]
    · isplitl [Hg]; · iexact Hg
      isplitl [C0]; · iexact C0
      isplitl [C2] <;> iassumption
    isplitl [Hs]; · iexact Hs
    isplitl [Ho]; · iexact Ho
    isplitl [Hx] <;> iassumption
  · iintro H; iexact H

/-! ## The launch: counters and rights -/

/-- The kernel's own semaphores: the send's and the receive's. -/
abbrev ownSem : Fin 2 → SemLoc sig := fun k => counter k.succ
/-- The two semaphores belong to the region, and differ from each other and from those of the staging. -/
theorem ownSem_facts : Pipeline.OwnSemFacts cfg0.spec ownSem := by decide

/-- Every window of the region is held in full. -/
theorem share_full (c : Dev nD) (w : Fin cfg0.W) : (dat m ρ 0 c).share w = fullShare := by unfold Dat.share; split <;> rfl

/-- The twelve counters, -/
def allCells : Finset (GSem nD τ sig) := Finset.univ.map ⟨cellAt, cellAt_injective⟩
/-- and one right to raise for each. -/
def allRights : Finset (GSem nD τ sig × ℕ × Unit) :=
  Finset.univ.map ⟨fun ck : Dev nD × Fin 3 => (cellAt ck, 0, ()), fun _ _ h => cellAt_injective (congrArg Prod.fst h)⟩

/-- The ghost state at the launch. -/
def ghost₀ : Ghost := (initOf (Pipeline.cells cfgs cellOf_inj) (Pipeline.launchToks cfgs cellOf_inj), initOf allCells allRights)

/-- The rights to raise device `c`'s own counters. -/
def rights (c : Dev nD) : sProp 𝕄 := bigSep Finset.univ fun k : Fin 3 => dutyTok exEmb (cellAt (c, k)) 0 ()
/-- Device `c`'s positions at its counters, -/
def positions (c : Dev nD) : sProp 𝕄 := bigSep Finset.univ fun k : Fin 3 => atPos exEmb (cellAt (c, k)) 0 ∅ 0
/-- and that none of them has been raised. -/
def unraised (c : Dev nD) : sProp 𝕄 := bigSep Finset.univ fun k : Fin 3 => reached exEmb (cellAt (c, k)) 0

/-- What the ghost state deals device `c`. -/
def dealt (c : Dev nD) : sProp 𝕄 :=
  iprop((bigSep Finset.univ fun k : Fin 3 => roundState exEmb (exchange m ρ) (cellAt (c, k)) 0) ∗ positions c ∗ unraised c ∗ rights c)
/-- Its share of the exchange, under some names of the rules. -/
def shared (c : Dev nD) : sProp 𝕄 := iprop(∃ K, share m ρ K c)

omit [FloatOps F] in
/-- Something for each of three counters is the three things together. -/
theorem three (Φ : Fin 3 → sProp 𝕄) : bigSep Finset.univ Φ = iprop(Φ 0 ∗ Φ 1 ∗ Φ 2) := bigSep_univ_eq_bigSepL [0, 1, 2] (by decide) (by decide) Φ

/-- The exchange's part of the ghost state is dealt to the devices. -/
theorem deal : BI.own (exEmb (initOf allCells allRights)) ⊢ (|==> bigSep Finset.univ (dealt m ρ) : sProp 𝕄) := by
  have hX (Φ : GSem nD τ sig → sProp 𝕄) : bigSep allCells Φ = bigSep Finset.univ fun c : Dev nD => bigSep Finset.univ fun k : Fin 3 => Φ (cellAt (c, k)) := by
    unfold allCells; rw [bigSep_map, bigSep_univ_prod]; rfl
  have hT : bigSep allRights (fun x => (dutyTok exEmb x.1 x.2.1 x.2.2 : sProp 𝕄)) = bigSep Finset.univ fun c : Dev nD => rights c := by
    unfold allRights; rw [bigSep_map, bigSep_univ_prod]; rfl
  iintro H
  imod (Rounds.fund exEmb (exchange m ρ) allCells allRights) $$ H with ⟨Hst, Hr, Hat, Htok⟩
  imodintro
  ihave Hst := (Entails.of_eq (hX fun g => roundState exEmb (exchange m ρ) g 0)) $$ Hst
  ihave Hat := (Entails.of_eq (hX fun g => atPos exEmb g 0 ∅ 0)) $$ Hat
  ihave Hr := (Entails.of_eq (hX fun g => reached exEmb g 0)) $$ Hr
  ihave Htok := (Entails.of_eq hT) $$ Htok
  unfold dealt positions unraised; simp only [bigSep_sep']
  isplitl [Hst]; · iexact Hst
  isplitl [Hat]; · iexact Hat
  isplitl [Hr]; · iexact Hr
  iexact Htok

omit [FloatOps F] in
/-- A device's own semaphores at zero are its send's and its receive's counter at zero. -/
theorem own_counters (c : Dev nD) : (Pipeline.ownSems0 (Ix := Unit) (Name := ℕ) (U := Ghost) (Lvl := ℕ) (Val := Elt F) (τ := τ) ownSem c : sProp 𝕄)
    = iprop(semVal (cellAt (c, 1)) 0 ∗ semVal (cellAt (c, 2)) 0) := by
  rw [Pipeline.ownSems0_eq_of_list c ownSem [0, 1] (by decide) (by decide)]; rfl
omit [FloatOps F] in
/-- Its semaphores outside the region, at zero, are the barrier's counter at zero. -/
theorem barrier_counter (c : Dev nD) : (unscopedSems0 c : sProp 𝕄) = semVal (cellAt (c, 0)) 0 := by
  unfold unscopedSems0; rw [bigSep_eq_bigSepL_of_eq [counter 0] (by decide) (by decide)]; rfl

/-- One device's counters come under their rules. -/
theorem establish (c : Dev nD) :
    iprop(Pipeline.ownSems0 (Ix := Unit) (Name := ℕ) (U := Ghost) (Lvl := ℕ) (Val := Elt F) (τ := τ) ownSem c ∗ unscopedSems0 c ∗ dealt m ρ c)
      ⊢ |={Set.univ}=> iprop((bigSep Finset.univ fun k => iprop(∃ κ : ℕ, cellInv exEmb (exchange m ρ) κ (cellAt (c, k)))) ∗ positions c ∗ unraised c ∗ rights c) := by
  unfold dealt
  rw [own_counters, barrier_counter]
  iintro ⟨⟨V1, V2⟩, V0, Hst, Hrest⟩
  ihave Hv := (Entails.of_eq (three (fun k : Fin 3 => (semVal (cellAt (c, k)) 0 : sProp 𝕄))).symm) $$ [V0 V1 V2]
  · isplitl [V0]; · iexact V0
    isplitl [V1] <;> iassumption
  imod (show iprop((bigSep Finset.univ fun k : Fin 3 => semVal (cellAt (c, k)) 0) ∗ bigSep Finset.univ fun k : Fin 3 => roundState exEmb (exchange m ρ) (cellAt (c, k)) 0)
      ⊢ (|={Set.univ}=> bigSep Finset.univ fun k => iprop(∃ κ : ℕ, cellInv exEmb (exchange m ρ) κ (cellAt (c, k))) : sProp 𝕄) from by
        rw [← bigSep_sep']
        exact (bigSep_mono fun k _ => (Rounds.body_intro exEmb (exchange m ρ) (cellAt (c, k))).trans inv_alloc).trans (bigSep_fupd _ _)) $$ [Hv Hst] with Hinv
  · isplitl [Hv] <;> iassumption
  imodintro
  isplitl [Hinv]; · iexact Hinv
  iexact Hrest

/-- What every device may know: all the rules, and that nothing has been raised. -/
def known (K : Dev nD × Fin 3 → ℕ) : sProp 𝕄 :=
  iprop((bigSep Finset.univ fun ck : Dev nD × Fin 3 => cellInv exEmb (exchange m ρ) (K ck) (cellAt ck))
    ∗ bigSep Finset.univ fun ck : Dev nD × Fin 3 => reached exEmb (cellAt ck) 0)

/-- What every device may know may be kept while it is used. -/
instance known_persistent (K : Dev nD × Fin 3 → ℕ) : BI.Persistent (known m ρ K) := by unfold known; infer_instance

/-- From all the rules together, the rule of one counter. -/
theorem rule_of (K : Dev nD × Fin 3 → ℕ) (ck : Dev nD × Fin 3) :
    (bigSep Finset.univ fun ck : Dev nD × Fin 3 => (cellInv exEmb (exchange m ρ) (K ck) (cellAt ck) : sProp 𝕄)) ⊢ cellInv exEmb (exchange m ρ) (K ck) (cellAt ck) :=
  bigSep_elim (Finset.mem_univ ck)
omit [FloatOps F] in
/-- From no counter having been raised, that one counter has not. -/
theorem unraised_of (ck : Dev nD × Fin 3) :
    (bigSep Finset.univ fun ck : Dev nD × Fin 3 => (reached exEmb (cellAt ck) 0 : sProp 𝕄)) ⊢ reached exEmb (cellAt ck) 0 :=
  bigSep_elim (Finset.mem_univ ck)

/-- What everyone knows, with a device's positions and its raises, makes the device's share. -/
theorem share_of (K : Dev nD × Fin 3 → ℕ) (c : Dev nD) : iprop(known m ρ K ∗ positions c ∗ toRaise c) ⊢ shared m ρ c := by
  unfold known positions shared share rules
  rw [three]
  iintro ⟨⟨#HI, #HR⟩, Hp, Ht⟩
  iexists K
  isplitr
  · isplitr; · iapply (rule_of m ρ K (c, 0)); iexact HI
    isplitr; · iapply (rule_of m ρ K (c, 1)); iexact HI
    isplitr; · iapply (rule_of m ρ K (c, 2)); iexact HI
    isplitr; · iapply (rule_of m ρ K (peer c, 0)); iexact HI
    iapply (rule_of m ρ K (peer c, 2)); iexact HI
  isplitl [Hp]; · iexact Hp
  isplitr
  · isplitr; · iapply (unraised_of (F := F) (peer c, 0)); iexact HR
    isplitr; · iapply (unraised_of (F := F) (peer c, 2)); iexact HR
    isplitr; · iapply (unraised_of (F := F) (c, 1)); iexact HR
    iapply (unraised_of (F := F) (c, 2)); iexact HR
  iexact Ht

omit [FloatOps F] in
/-- The rights of the barriers and of the receives go across the row, those of the sends stay. -/
theorem rights_across : (bigSep Finset.univ fun c : Dev nD => (rights c : sProp 𝕄)) ⊢ bigSep Finset.univ fun c : Dev nD => toRaise c := by
  unfold rights toRaise
  simp only [three]
  rw [bigSep_sep', bigSep_sep', bigSep_sep', bigSep_sep',
    bigSep_univ_equiv peers (fun c : Dev nD => (dutyTok exEmb (cellAt (c, 0)) 0 () : sProp 𝕄)),
    bigSep_univ_equiv peers (fun c : Dev nD => (dutyTok exEmb (cellAt (c, 2)) 0 () : sProp 𝕄))]
  iintro ⟨H0, H1, H2⟩
  isplitl [H0]; · iexact H0
  isplitl [H2]; · iexact H2
  iexact H1

omit [FloatOps F] in
/-- If a lasting fact turns each thing of a family into another, it turns the family into the other family. -/
theorem each_with {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- All devices' counters, established, make all devices' shares. -/
theorem share_out :
    (bigSep Finset.univ fun c : Dev nD => iprop((bigSep Finset.univ fun k => iprop(∃ κ : ℕ, cellInv exEmb (exchange m ρ) κ (cellAt (c, k)))) ∗ positions c ∗ unraised c ∗ rights c) : sProp 𝕄)
      ⊢ bigSep Finset.univ (shared m ρ) := by
  rw [bigSep_sep', bigSep_sep', bigSep_sep', ← bigSep_univ_prod (fun ck : Dev nD × Fin 3 => iprop(∃ κ : ℕ, cellInv exEmb (exchange m ρ) κ (cellAt ck)))]
  unfold unraised
  rw [← bigSep_univ_prod (fun ck : Dev nD × Fin 3 => (reached exEmb (cellAt ck) 0 : sProp 𝕄))]
  iintro ⟨HI, Hp, #HR, Ht⟩
  ihave HK := (BI.bigSep_exists_pi Finset.univ (fun (ck : Dev nD × Fin 3) (κ : ℕ) => (cellInv exEmb (exchange m ρ) κ (cellAt ck) : sProp 𝕄))) $$ HI
  icases HK with ⟨%K, #HI⟩
  ihave Ht := (rights_across (F := F)) $$ Ht
  iapply (each_with (R := known m ρ K) fun c _ => share_of m ρ K c)
  isplitr
  · unfold known; isplitl; · iexact HI
    iexact HR
  · iapply (Entails.of_eq (bigSep_sep' Finset.univ (fun c : Dev nD => (positions c : sProp 𝕄)) toRaise).symm)
    isplitl [Hp]; · iexact Hp
    iexact Ht

/-- The launch's step over all devices at once. -/
theorem set_up : (bigSep Finset.univ fun c => iprop(Pipeline.ownSems0 (Ix := Unit) (Name := ℕ) (U := Ghost) (Lvl := ℕ) (Val := Elt F) (τ := τ) ownSem c ∗ unscopedSems0 c ∗ dealt m ρ c) : sProp 𝕄)
    ⊢ |={Set.univ}=> bigSep Finset.univ (shared m ρ) :=
  ((bigSep_mono fun c _ => establish m ρ c).trans (bigSep_fupd _ _)).trans (BI.fupd_mono (share_out m ρ))

/-! ## The launch: what may be expected -/

/-- Counters of one number are equal just when the devices are. -/
theorem cell_iff {a b : Dev nD} {k : Fin 3} : Iff (cellAt (a, k) = cellAt (b, k)) (a = b) :=
  ⟨fun h => congrArg Prod.fst (cellAt_injective h), fun h => h ▸ rfl⟩
/-- Counters of different numbers differ, whatever the devices. -/
theorem cells_ne {a b : Dev nD} {k l : Fin 3} (h : k ≠ l) : cellAt (a, k) ≠ cellAt (b, l) :=
  fun e => h (congrArg Prod.snd (cellAt_injective e))

/-- A device's barrier is owed one by its peer and nothing by the others. -/
theorem owed_barrier (d c : Dev nD) : owedBy d (cellAt (c, 0)) () = if d = peer c then 1 else 0 := by
  unfold owedBy
  rw [Pi.add_apply, Finsupp.add_apply, tallyAt_ne_cell (cells_ne (by decide)), tallyAt_apply, Finsupp.zero_apply, Nat.zero_add]
  refine if_congr ⟨fun h => ?_, fun h => ⟨?_, rfl⟩⟩ rfl rfl
  · rw [cell_iff.mp h.1, peer_peer]
  · rw [h, peer_peer]

/-- A device's receive counter is owed a transfer by its peer and nothing by the others. -/
theorem owed_receive (d c : Dev nD) : owedBy d (cellAt (c, 2)) () = if d = peer c then credit else 0 := by
  unfold owedBy
  rw [Pi.add_apply, Finsupp.add_apply, tallyAt_apply, tallyAt_ne_cell (cells_ne (by decide)), Finsupp.zero_apply, Nat.add_zero]
  refine if_congr ⟨fun h => ?_, fun h => ⟨?_, rfl⟩⟩ rfl rfl
  · rw [cell_iff.mp h.1, peer_peer]
  · rw [h, peer_peer]

/-- So at the launch a device may expect one raise of its barrier, -/
theorem expects_barrier (c : Dev nD) :
    tallyOn (cellAt (c, 0)) (launchCredit (Pipeline.owing owedBy) 0 (cellAt (c, 0))) = (tallyAt (cellAt (c, 0)) () 1 : CellTallies nD τ sig Unit) := by
  unfold tallyAt; refine congrArg _ (Finsupp.ext fun u => ?_); cases u
  rw [Pipeline.launchCredit_owing, Finsupp.single_eq_same, Finset.sum_congr rfl fun d _ => owed_barrier d c, Finset.sum_ite_eq' Finset.univ (peer c) fun _ => 1,
    if_pos (Finset.mem_univ _)]

/-- and one transfer's credit at its receive counter. -/
theorem expects_receive (c : Dev nD) :
    tallyOn (cellAt (c, 2)) (launchCredit (Pipeline.owing owedBy) 0 (cellAt (c, 2))) = (tallyAt (cellAt (c, 2)) () credit : CellTallies nD τ sig Unit) := by
  unfold tallyAt; refine congrArg _ (Finsupp.ext fun u => ?_); cases u
  rw [Pipeline.launchCredit_owing, Finsupp.single_eq_same, Finset.sum_congr rfl fun d _ => owed_receive d c, Finset.sum_ite_eq' Finset.univ (peer c) fun _ => credit,
    if_pos (Finset.mem_univ _)]

omit [FloatOps F] in
/-- From everything expected at the launch, a device takes these two expectations. -/
theorem expects (c : Dev nD) :
    (Pipeline.launchCred owedBy c : sProp 𝕄) ⊢ iprop(cred (tallyAt (cellAt (c, 0)) () 1) ∗ cred (tallyAt (cellAt (c, 2)) () credit)) := by
  unfold Pipeline.launchCred
  rw [bigSep_univ_at _ (counter 0), expects_barrier]
  refine sep_mono_right ?_
  rw [← expects_receive]
  exact bigSep_elim (Finset.mem_erase.mpr ⟨counters_ne (k := 2) (l := 0) (by decide), Finset.mem_univ _⟩)

/-! ## The run -/

/-- What the launch gives a device makes the state it starts from. -/
theorem entering (c : Dev nD) :
    iprop(Pipeline.unscopedRestP Pipeline.Prefetch.none cfg0.spec c (fun b => m ((c : Thread nD τ).loc b)) ∗ levAts sources level
        ∗ Pipeline.launchCred owedBy c ∗ prngReg c (ρ c) ∗ shared m ρ c)
      ⊢ |={Set.univ}=> iprop(atStart m ρ c ∗ emp) := by
  iintro ⟨-, Hlev, Hcr, -, HG⟩
  ihave Hc := (expects (F := F) c) $$ Hcr
  icases Hc with ⟨H0, H2⟩
  imodintro
  unfold atStart shared
  isplitl
  · isplitl [HG]; · iexact HG
    isplitl [H0]; · iexact H0
    isplitl [H2]; · iexact H2
    iexact Hlev
  · iempintro

/-- That state, with the scratch buffers, is the state before the program. -/
theorem begins (c : Dev nD) :
    iprop(atStart m ρ c ∗ Pipeline.prefHeld Pipeline.Prefetch.none c (fun _ => fullShare.right) (fun k => k.elim0) ∗ Pipeline.scopedRest cfg0.spec c)
      ⊢ (dat m ρ 0 c).Φ 0 := by
  rw [show (dat m ρ 0 c).Φ 0 = before m ρ c from rfl, scopedRest0_eq]
  unfold before
  iintro ⟨Hs, -, ⟨%f, Hl⟩, ⟨%g, Hr⟩⟩
  isplitl [Hs]; · iexact Hs
  isplitl [Hl]
  · iexists f; rw [holdsList_eq]; iexact Hl
  · iexists g; rw [holdsRecv_eq]; iexact Hr

/-- The state after the program gives back all semaphores at zero and the scratch buffers. -/
theorem leaves (c : Dev nD) :
    (dat m ρ 0 c).Φ (Fin.last cfg0.N) ⊢ iprop(unscopedSems0 c ∗ Pipeline.ownSems0 ownSem c ∗ Pipeline.scopedRest cfg0.spec c) := by
  rw [show (dat m ρ 0 c).Φ (Fin.last cfg0.N) = after m ρ c from rfl, scopedRest0_eq, own_counters, barrier_counter]
  unfold after
  rw [holdsList_eq, holdsRecv_eq]
  iintro ⟨Hl, Hr, Z0, Z1, Z2⟩
  isplitl [Z0]; · iexact Z0
  isplitl [Z1 Z2]
  · isplitl [Z1] <;> iassumption
  isplitl [Hl]
  · iexists (listOf m ρ c); iexact Hl
  · iexists (listOf m ρ (peer c)); iexact Hr

/-- The waits of the staging may be made at every point. -/
theorem stagingWaits (c : Dev nD) : (levAts sources level : sProp 𝕄) ⊢ Pipeline.cellsWaits cfgs (dat m ρ) () 0 c :=
  Pipeline.cellsWaits_intro cfgs (dat m ρ) () 0 c fun w s t =>
    mayWait_staging c _ (by fin_cases w <;> fin_cases s <;> decide) _ (by
      rcases t with ⟨_ | _, ht⟩
      · exact Or.inl rfl
      · exact Or.inr rfl)

/-- What window `w`'s array of device `c` holds after the run. -/
def finalOf (c : Dev nD) (w : Fin cfg0.W) : Buf (Elt F) ((cfg0.win w).arr.view.loc (c : Thread nD τ)) := (dat m ρ 0 c).arrAt w cfg0.N

set_option maxRecDepth 8000 in
/-- The program on the four devices terminates from any memory with counters at zero, whatever the float values;
every device's two arrays then hold `finalOf`, and every counter is at zero. -/
theorem run_main : θ_run defs (onTc (τ := τ) (main (F := F))) (⟨m, fun _ => 0, ρ⟩ : MemSt nD τ sig (Elt F))
    (fun r => (∀ c : Dev nD, ∀ w : Fin cfg0.W, r.2.mem ((cfg0.win w).arr.view.loc (c : Thread nD τ)) = finalOf m ρ c w) ∧ r.2.sem = fun _ => 0) :=
  Pipeline.θ_run_region_owing_glob_pf (fun p => (cfgs p).toPCfg) (fun p => (cfgs p).toPCfg_adm) (dat m ρ) () cellOf_inj (0 : Fin 1)
    winFacts0.to₀ ownSem_facts (Pipeline.PreFacts.none _) stageEmb defs₀ noCalls m ρ main
    (hmain := fun _ => rfl)
    (hbody := body_meets m ρ) (hne := fun w => by fin_cases w <;> exact Nat.succ_pos _) (harr := arr_whole0) (hstage := stage_whole0) (hshare := share_full m ρ)
    (hdistinct := winFacts0.arr_inj)
    (O₀ := owedBy) (howed₀ := fun _ => rfl) (howedN := fun _ => rfl)
    (L := sources) (lv := level) (hL := sources_other) (hwaits := stagingWaits m ρ)
    (G := dealt m ρ) (G' := shared m ρ) (u₀ := ghost₀)
    (hu₀ := by
      unfold ghost₀
      iintro Hu
      ihave H := (ownU_pair _ _) $$ Hu
      icases H with ⟨HP, HX⟩
      imod (deal m ρ) $$ HX with HG
      imodintro
      isplitl [HP] <;> iassumption)
    (hglob := set_up m ρ)
    (hA := fun _ _ => rfl) (hpf := fun _ k => k.elim0)
    (X := atStart m ρ) (Y := fun c => unscopedSems0 c) (Z := fun _ => iprop(emp))
    (hX := entering m ρ) (hin := begins m ρ) (hout := leaves m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The block of `x` is left as it was. -/
theorem finalOf_x (c : Dev nD) : finalOf m ρ c (0 : Fin 2) = m ((c : Thread nD τ).loc main_arg0) :=
  (dat (F := F) m ρ 0 c).arrAt_in (0 : Fin 2) rfl _

end Cert.TopK

end
-- ==== Proof.Frames.lean ====
/-
# The kernel's frames

The run of the four devices with its values dropped: the program ends, its arguments are as they were and
every counter is at zero. The program as printed and its idealization are the same text, so both are the one
run, read at machine floats and at exact numbers.
-/
module

public import proofs.«01_k».proof.Defs
public import proofs.«01_k».proof.Proof.Gen.Kernel
public import proofs.«01_k».proof.Proof.Gen.ReferenceIdeal.Run
public import proofs.«01_k».proof.Proof.Run

@[expose] public section

noncomputable section

namespace Cert.TopK

open Idealize.ShloMosaic Idealize.SL.Sem

/-- The run with its values dropped, for any float values. -/
theorem frame_any {F : FTy → Type} [FloatOps F] (m : (ℓ : Loc Cert.KernelIdeal.nD Cert.KernelIdeal.τ Cert.KernelIdeal.sig) → Buf (Elt F) ℓ) (ρ : Dev Cert.KernelIdeal.nD → PrngReg) :
    θ_run (Cert.KernelIdeal.defs (F := F)) (onTc (τ := Cert.KernelIdeal.τ) (Cert.KernelIdeal.main (F := F))) ⟨m, fun _ => 0, ρ⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0) :=
  (θ_run Cert.KernelIdeal.defs _ _).mono (fun _ h => ⟨fun c => (h.1 c 0).trans (finalOf_x m ρ c), h.2⟩) (run_main m ρ)

/-- The two programs' bodies are one text. -/
theorem bodies_eq : @Cert.Kernel.cc0_body Bits _ Cert.Kernel.Gen.facts = @Cert.KernelIdeal.cc0_body Bits _ Cert.KernelIdeal.Gen.facts := rfl

/-- So their tables of bodies agree. -/
theorem tables_eq : @Cert.Kernel.defs₀ Bits _ Cert.Kernel.Gen.facts = @Cert.KernelIdeal.defs₀ Bits _ Cert.KernelIdeal.Gen.facts := by
  unfold Cert.Kernel.defs₀ Cert.KernelIdeal.defs₀
  refine congrArg Defs.onTc (funext fun l => funext fun a => ?_)
  match l, a with
  | ⟨0, _⟩, (t, s) => rfl

/-- The kernel at machine floats ends with its arguments unchanged and every counter at zero. -/
theorem frame_kernel : Cert.quiescent_Kernel (hKernel := Cert.Kernel.Gen.facts) := fun m ρ _ => by
  unfold Cert.Kernel.defs
  rw [tables_eq]
  exact frame_any (F := Bits) m ρ

/-- The idealized kernel ends with its arguments unchanged and every counter at zero. -/
theorem frame_ideal : Cert.quiescent_KernelIdeal (hKernelIdeal := Cert.KernelIdeal.Gen.facts) := fun m ρ _ => frame_any (F := Ideal) m ρ

/-- The reference runs on the host, has no counters, and leaves its argument unchanged. -/
theorem frame_reference : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩)
    (Cert.ReferenceIdeal.Value.run (F := Ideal) m ρ)

end Cert.TopK

end
-- ==== Proof.Counts.lean ====
/-
# Counting: the networks and the fold over truth values

Fix a threshold `t`. A list in descending order is known by how many of its values reach `t`: the place `i`
reaches `t` exactly when `i` is below that number. The theorems here say what each network makes of two
such numbers, what the fold into 128 classes makes of the numbers of its columns, and what the places of a
sorted row reach.
-/
module

public import proofs.«01_k».proof.Proof.Net
public import Mathlib.Algebra.BigOperators.Intervals
public import Mathlib.Algebra.Order.BigOperators.Group.Finset
public import Mathlib.Order.Interval.Finset.Nat
public import Mathlib.Data.Fintype.Card
public import Mathlib.Tactic.Ring

@[expose] public section

namespace Cert.TopK

/-! ## The networks -/

section Networks

variable {α β : Type}

/-- A stage at distance `d` commutes with a map that turns its two operations into two others. -/
theorem cx_map (φ : α → β) (mx mn : α → α → α) (mx' mn' : β → β → β) (h1 : ∀ a b, φ (mx a b) = mx' (φ a) (φ b))
    (h2 : ∀ a b, φ (mn a b) = mn' (φ a) (φ b)) (d : ℕ) (s : ℕ → α) (i : ℕ) :
    φ (cx mx mn d s i) = cx mx' mn' d (fun k => φ (s k)) i := by
  unfold cx
  cases Nat.beq (i / d % 2) 0
  · exact h2 _ _
  · exact h1 _ _

/-- So does the first stage of a merge that keeps everything, -/
theorem grow_map (φ : α → β) (mx mn : α → α → α) (mx' mn' : β → β → β) (h1 : ∀ a b, φ (mx a b) = mx' (φ a) (φ b))
    (h2 : ∀ a b, φ (mn a b) = mn' (φ a) (φ b)) (n : ℕ) (a b : ℕ → α) (i : ℕ) :
    φ (grow mx mn n a b i) = grow mx' mn' n (fun k => φ (a k)) (fun k => φ (b k)) i := by
  unfold grow
  cases Nat.blt i n
  · exact h2 _ _
  · exact h1 _ _

/-- and that of a merge that keeps sixteen. -/
theorem trim_map (φ : α → β) (mx : α → α → α) (mx' : β → β → β) (h1 : ∀ a b, φ (mx a b) = mx' (φ a) (φ b)) (a b : ℕ → α) (i : ℕ) :
    φ (trim mx a b i) = trim mx' (fun k => φ (a k)) (fun k => φ (b k)) i := h1 _ _

/-- A stage's first `n` places depend only on the first `n` places of its list, if every pair lies within them. -/
theorem cx_congr (mx mn : α → α → α) {n d : ℕ} (hd : ∀ i < n, i / d % 2 = 0 → i + d < n) {s u : ℕ → α} (h : ∀ i < n, s i = u i) :
    ∀ i < n, cx mx mn d s i = cx mx mn d u i := by
  intro i hi
  unfold cx
  cases hb : Nat.beq (i / d % 2) 0
  · show mn _ _ = mn _ _
    rw [h i hi, h (i - d) (by omega)]
  · show mx _ _ = mx _ _
    rw [h i hi, h (i + d) (hd i hi (Nat.eq_of_beq_eq_true hb))]

/-- The same of the first stage of a merge that keeps everything, -/
theorem grow_congr (mx mn : α → α → α) {n : ℕ} {a a' b b' : ℕ → α} (ha : ∀ i < n, a i = a' i) (hb : ∀ i < n, b i = b' i) :
    ∀ i < 2 * n, grow mx mn n a b i = grow mx mn n a' b' i := by
  intro i hi
  unfold grow
  cases hn : Nat.blt i n
  · have : ¬ i < n := fun hlt => by rw [show Nat.blt i n = true from Nat.ble_eq_true_of_le hlt] at hn; cases hn
    show mn _ _ = mn _ _
    rw [ha (i - n) (by omega), hb (2 * n - 1 - i) (by omega)]
  · have : i < n := Nat.le_of_ble_eq_true hn
    show mx _ _ = mx _ _
    rw [ha i this, hb (n - 1 - i) (by omega)]

/-- and of a merge that keeps sixteen. -/
theorem trim_congr (mx : α → α → α) {a a' b b' : ℕ → α} (ha : ∀ i < 16, a i = a' i) (hb : ∀ i < 16, b i = b' i) :
    ∀ i < 16, trim mx a b i = trim mx a' b' i := by
  intro i hi
  show mx _ _ = mx _ _
  rw [ha i hi, hb (15 - i) (by omega)]

/-- The truth values of a list in descending order of which `c` values reach the threshold. -/
def upto (c : ℕ) : ℕ → Bool := fun i => Nat.blt i c

/-- Merging two such lists of four gives such a list of eight, -/
theorem upto_grow4 : ∀ p < 5, ∀ q < 5, ∀ i < 8, cx or and 1 (cx or and 2 (grow or and 4 (upto p) (upto q))) i = upto (p + q) i := by
  decide +kernel

/-- two of eight one of sixteen, -/
theorem upto_grow8 : ∀ p < 9, ∀ q < 9, ∀ i < 16,
    cx or and 1 (cx or and 2 (cx or and 4 (grow or and 8 (upto p) (upto q)))) i = upto (p + q) i := by
  decide +kernel

/-- and two of sixteen the sixteen largest. -/
theorem upto_trim : ∀ p < 17, ∀ q < 17, ∀ i < 16,
    cx or and 1 (cx or and 2 (cx or and 4 (cx or and 8 (trim or (upto p) (upto q))))) i = upto (p + q) i := by
  decide +kernel

end Networks

/-! ## Lists of numbers -/

section Lists

variable {α : Type} [LinearOrder α]

/-- The first `n` places of `s` reach the threshold `t` exactly as far as the first `c`. -/
def Reach (t : α) (n c : ℕ) (s : ℕ → α) : Prop := ∀ i < n, (t ≤ s i ↔ i < c)

/-- The truth values of such a list. -/
theorem Reach.upto {t : α} {n c : ℕ} {s : ℕ → α} (h : Reach t n c s) : ∀ i < n, decide (t ≤ s i) = upto c i := by
  intro i hi
  rw [decide_eq_decide.mpr (h i hi)]
  unfold TopK.upto
  rw [Bool.eq_iff_iff, decide_eq_true_iff]
  exact ⟨fun hlt => Nat.ble_eq_true_of_le hlt, fun hb => Nat.le_of_ble_eq_true hb⟩

/-- From truth values back to the list. -/
theorem Reach.of_upto {t : α} {n c : ℕ} {s : ℕ → α} (h : ∀ i < n, decide (t ≤ s i) = TopK.upto c i) : Reach t n c s := by
  intro i hi
  have := h i hi
  unfold TopK.upto at this
  rw [Bool.eq_iff_iff, decide_eq_true_iff] at this
  exact this.trans ⟨fun hb => Nat.le_of_ble_eq_true hb, fun hlt => Nat.ble_eq_true_of_le hlt⟩

/-- Only how far the places go counts, not what the number is beyond them. -/
theorem Reach.congr {t : α} {n c c' : ℕ} {s : ℕ → α} (h : Reach t n c s) (hc : min n c = min n c') : Reach t n c' s := fun i hi =>
  (h i hi).trans ⟨fun _ => by omega, fun _ => by omega⟩

variable (t : α)

/-- The larger of two numbers reaches `t` when one does. -/
theorem reach_max (a b : α) : decide (t ≤ max a b) = (decide (t ≤ a) || decide (t ≤ b)) := by
  rw [decide_eq_decide.mpr le_max_iff, Bool.decide_or]

/-- The smaller of two numbers reaches `t` when both do. -/
theorem reach_min (a b : α) : decide (t ≤ min a b) = (decide (t ≤ a) && decide (t ≤ b)) := by
  rw [decide_eq_decide.mpr le_min_iff, Bool.decide_and]

variable {t}

/-- Two lists of four merged: the numbers add. -/
theorem Reach.grow4 {p q : ℕ} {s u : ℕ → α} (hp : p ≤ 4) (hq : q ≤ 4) (hs : Reach t 4 p s) (hu : Reach t 4 q u) :
    Reach t 8 (p + q) (cx max min 1 (cx max min 2 (grow max min 4 s u))) := by
  refine .of_upto fun i hi => ?_
  rw [cx_map (fun v => decide (t ≤ v)) max min or and (reach_max t) (reach_min t)]
  simp only [cx_map (fun v => decide (t ≤ v)) max min or and (reach_max t) (reach_min t),
    grow_map (fun v => decide (t ≤ v)) max min or and (reach_max t) (reach_min t)]
  rw [← upto_grow4 p (by omega) q (by omega) i hi]
  exact cx_congr _ _ (n := 8) (by decide) (cx_congr _ _ (by decide) (grow_congr _ _ hs.upto hu.upto)) i hi

/-- Two lists of eight merged: the numbers add. -/
theorem Reach.grow8 {p q : ℕ} {s u : ℕ → α} (hp : p ≤ 8) (hq : q ≤ 8) (hs : Reach t 8 p s) (hu : Reach t 8 q u) :
    Reach t 16 (p + q) (cx max min 1 (cx max min 2 (cx max min 4 (grow max min 8 s u)))) := by
  refine .of_upto fun i hi => ?_
  rw [cx_map (fun v => decide (t ≤ v)) max min or and (reach_max t) (reach_min t)]
  simp only [cx_map (fun v => decide (t ≤ v)) max min or and (reach_max t) (reach_min t),
    grow_map (fun v => decide (t ≤ v)) max min or and (reach_max t) (reach_min t)]
  rw [← upto_grow8 p (by omega) q (by omega) i hi]
  exact cx_congr _ _ (n := 16) (by decide) (cx_congr _ _ (by decide) (cx_congr _ _ (by decide) (grow_congr _ _ hs.upto hu.upto))) i hi

/-- The sixteen largest of two lists of sixteen: the numbers add, as far as sixteen places show. -/
theorem Reach.trim {p q : ℕ} {s u : ℕ → α} (hs : Reach t 16 p s) (hu : Reach t 16 q u) :
    Reach t 16 (p + q) (cx max min 1 (cx max min 2 (cx max min 4 (cx max min 8 (trim max s u))))) := by
  have hs' : Reach t 16 (min 16 p) s := hs.congr (by omega)
  have hu' : Reach t 16 (min 16 q) u := hu.congr (by omega)
  refine Reach.congr (c := min 16 p + min 16 q) (.of_upto fun i hi => ?_) (by omega)
  rw [cx_map (fun v => decide (t ≤ v)) max min or and (reach_max t) (reach_min t)]
  simp only [cx_map (fun v => decide (t ≤ v)) max min or and (reach_max t) (reach_min t),
    trim_map (fun v => decide (t ≤ v)) max or (reach_max t)]
  rw [← upto_trim (min 16 p) (by omega) (min 16 q) (by omega) i hi]
  exact cx_congr _ _ (n := 16) (by decide) (cx_congr _ _ (by decide) (cx_congr _ _ (by decide) (cx_congr _ _ (by decide)
    (trim_congr _ hs'.upto hu'.upto)))) i hi

end Lists

/-! ## The fold -/

/-- What the fold knows of a set of `n` truths: whether there is one (`top`), and the losers `cs`, of which one is
    true from `n = 2` on and two from `n = 3` on. -/
structure Known (n : ℕ) (top : Bool) (cs : List Bool) : Prop where
  one : top = true ↔ 1 ≤ n
  two : 1 ≤ cs.count true ↔ 2 ≤ n
  three : 2 ≤ cs.count true ↔ 3 ≤ n

/-- Of two lists of losers put together place by place as many are true as of either, and not more than of both. -/
theorem count_zipWith_or : ∀ (l r : List Bool), l.length = r.length →
    l.count true ≤ (List.zipWith or l r).count true ∧ r.count true ≤ (List.zipWith or l r).count true
      ∧ (List.zipWith or l r).count true ≤ l.count true + r.count true
  | [], [], _ => ⟨Nat.le_refl _, Nat.le_refl _, Nat.le_refl _⟩
  | a :: l, b :: r, h => by
    obtain ⟨h1, h2, h3⟩ := count_zipWith_or l r (Nat.succ.inj h)
    cases a <;> cases b <;> simp [List.zipWith_cons_cons, List.count_cons] <;> omega

/-- One fold: two sets put together. Their winners meet, and the loser of the meeting joins the losers. -/
theorem Known.fold {n m : ℕ} {a b : Bool} {l r : List Bool} (hl : l.length = r.length) (h : Known n a l) (k : Known m b r) :
    Known (n + m) (a || b) ((a && b) :: List.zipWith or l r) := by
  obtain ⟨h1, h2, h3⟩ := h
  obtain ⟨k1, k2, k3⟩ := k
  obtain ⟨z1, z2, z3⟩ := count_zipWith_or l r hl
  have hc : ((a && b) :: List.zipWith or l r).count true = (List.zipWith or l r).count true + (a && b).toNat := by
    cases a <;> cases b <;> simp
  refine ⟨?_, ?_, ?_⟩
  · rw [Bool.or_eq_true, h1, k1]; omega
  · rw [hc]
    cases a <;> cases b <;> simp at h1 k1 <;> simp only [Bool.and_true, Bool.and_false, Bool.toNat_true, Bool.toNat_false] <;> omega
  · rw [hc]
    cases a <;> cases b <;> simp at h1 k1 <;> simp only [Bool.and_true, Bool.and_false, Bool.toNat_true, Bool.toNat_false] <;> omega

/-- A single column. -/
theorem known_one (a : Bool) : Known a.toNat a [] := by cases a <;> constructor <;> simp

/-- One step of keeping the second and third largest, over truth values. -/
def putB (p : Bool × Bool) (v : Bool) : Bool × Bool := (p.1 || v, p.2 || (p.1 && v))

/-- Keeping the two largest of five losers: the first is true if one of them is, the second if two are. -/
theorem putB_five : ∀ a b c d e : Bool, putB (putB (putB (putB (a, false) b) c) d) e
    = (decide (1 ≤ [a, b, c, d, e].count true), decide (2 ≤ [a, b, c, d, e].count true)) := by
  decide

/-! ## Sums over classes -/

/-- The numbers of the first `w` classes after those `w` apart have been put together. -/
def half (w : ℕ) (n : ℕ → ℕ) : ℕ → ℕ := fun q => n q + n (w + q)

/-- Putting classes together keeps the total. -/
theorem sum_half (w : ℕ) (n : ℕ → ℕ) : ∑ q ∈ Finset.range w, half w n q = ∑ q ∈ Finset.range (w + w), n q := by
  unfold half
  rw [Finset.sum_add_distrib, Finset.sum_range_add]

/-- The numbers of the 128 classes of 4096 columns. -/
def classes (h : ℕ → ℕ) : ℕ → ℕ := half 128 (half 256 (half 512 (half 1024 (half 2048 h))))

/-- The classes hold all columns. -/
theorem sum_classes (h : ℕ → ℕ) : ∑ q ∈ Finset.range 128, classes h q = ∑ j ∈ Finset.range 4096, h j := by
  unfold classes
  rw [sum_half 128, sum_half 256, sum_half 512, sum_half 1024, sum_half 2048]

/-- More in every column, more in every class. -/
theorem classes_mono {h k : ℕ → ℕ} (hk : ∀ j, h j ≤ k j) (q : ℕ) : classes h q ≤ classes k q := by
  have mono : ∀ (w : ℕ) {h k : ℕ → ℕ}, (∀ j, h j ≤ k j) → ∀ j, half w h j ≤ half w k j := fun w _ _ e j => Nat.add_le_add (e j) (e (w + j))
  exact mono _ (mono _ (mono _ (mono _ (mono _ hk)))) q

/-- A class's number: the sum of the 32 columns that are congruent to its own number modulo 128. -/
theorem classes_eq (h : ℕ → ℕ) (q : ℕ) : classes h q = ∑ m ∈ Finset.range 32, h (128 * m + q) := by
  unfold classes half
  simp only [Finset.sum_range_succ, Finset.sum_range_zero, ← Nat.add_assoc, Nat.reduceAdd, Nat.reduceMul, Nat.zero_add]
  omega

/-- Keeping three per class loses nothing that the first sixteen places show, if some sixteen columns `s` spread
    over the classes with at most three in each, and either hold every column counted or are all counted. -/
theorem sum_three {h s : ℕ → ℕ} (hs : ∀ q < 128, classes s q ≤ 3) (hsum : ∑ j ∈ Finset.range 4096, s j = 16)
    (hor : (∀ j, h j ≤ s j) ∨ ∀ j, s j ≤ h j) :
    min 16 (∑ q ∈ Finset.range 128, min 3 (classes h q)) = min 16 (∑ j ∈ Finset.range 4096, h j) := by
  rcases hor with hle | hge
  · have e : ∑ q ∈ Finset.range 128, min 3 (classes h q) = ∑ j ∈ Finset.range 4096, h j :=
      (Finset.sum_congr rfl fun q hq => Nat.min_eq_right (le_trans (classes_mono hle q) (hs q (Finset.mem_range.mp hq)))).trans
        (sum_classes h)
    rw [e]
  · have h1 : ∑ j ∈ Finset.range 4096, s j ≤ ∑ q ∈ Finset.range 128, min 3 (classes h q) := by
      rw [← sum_classes s]
      exact Finset.sum_le_sum fun q hq => le_min (hs q (Finset.mem_range.mp hq)) (classes_mono hge q)
    have h2 : ∑ j ∈ Finset.range 4096, s j ≤ ∑ j ∈ Finset.range 4096, h j := Finset.sum_le_sum fun j _ => hge j
    rw [hsum] at h1 h2
    rw [Nat.min_eq_left h1, Nat.min_eq_left h2]

/-! ## Sorted rows -/

/-- A set of places that contains with a place all earlier ones is the places below its size. -/
theorem mem_iff_lt_card {n : ℕ} (s : Finset (Fin n)) (h : ∀ i j : Fin n, i ≤ j → j ∈ s → i ∈ s) (i : Fin n) :
    i ∈ s ↔ i.val < s.card := by
  constructor
  · intro hi
    have hsub : Finset.Iic i ⊆ s := fun j hj => h j i (Finset.mem_Iic.mp hj) hi
    have := Finset.card_le_card hsub
    rw [Fin.card_Iic] at this
    omega
  · intro hi
    by_contra hn
    have hsub : s ⊆ Finset.Iio i := fun j hj => Finset.mem_Iio.mpr (lt_of_not_ge fun hij => hn (h i j hij hj))
    have := Finset.card_le_card hsub
    rw [Fin.card_Iio] at this
    omega

/-- Place `l` of a row in descending order reaches `t` exactly when more than `l` of the row's values do. -/
theorem sorted_reach {α : Type} [LinearOrder α] {n : ℕ} (v : Fin n → α) (σ : Fin n → Fin n) (hσ : Function.Bijective σ)
    (hdesc : ∀ i j : Fin n, i < j → v (σ j) ≤ v (σ i)) (t : α) (l : Fin n) :
    t ≤ v (σ l) ↔ l.val < (Finset.univ.filter fun j => t ≤ v j).card := by
  have hcard : (Finset.univ.filter fun j => t ≤ v j).card = (Finset.univ.filter fun j => t ≤ v (σ j)).card := by
    symm
    refine Finset.card_bij (fun j _ => σ j) (fun j hj => ?_) (fun _ _ _ _ e => hσ.1 e) (fun j hj => ?_)
    · rw [Finset.mem_filter] at hj ⊢
      exact ⟨Finset.mem_univ _, hj.2⟩
    · obtain ⟨i, rfl⟩ := hσ.2 j
      rw [Finset.mem_filter] at hj
      exact ⟨i, Finset.mem_filter.mpr ⟨Finset.mem_univ _, hj.2⟩, rfl⟩
  rw [hcard, ← mem_iff_lt_card]
  · simp
  · intro i j hij hj
    rw [Finset.mem_filter] at hj ⊢
    rcases eq_or_lt_of_le hij with rfl | hlt
    · exact hj
    · exact ⟨Finset.mem_univ _, le_trans hj.2 (hdesc i j hlt)⟩

/-- The columns of a row of `n` that reach `t`, as a function of the column's number. -/
def marks {α : Type} [LinearOrder α] {n : ℕ} (t : α) (v : Fin n → α) : ℕ → ℕ := fun j =>
  if h : j < n then (decide (t ≤ v ⟨j, h⟩)).toNat else 0

/-- At a column of the row. -/
theorem marks_val {α : Type} [LinearOrder α] {n : ℕ} (t : α) (v : Fin n → α) (j : Fin n) : marks t v j.val = (decide (t ≤ v j)).toNat := by
  unfold marks
  rw [dif_pos j.isLt]

/-- Their number. -/
theorem sum_marks {α : Type} [LinearOrder α] {n : ℕ} (t : α) (v : Fin n → α) :
    ∑ j ∈ Finset.range n, marks t v j = (Finset.univ.filter fun j => t ≤ v j).card := by
  rw [Finset.card_filter, ← Fin.sum_univ_eq_sum_range]
  refine Finset.sum_congr rfl fun j _ => ?_
  rw [marks_val]
  by_cases h : t ≤ v j <;> simp [h]

/-- Two numbers that reach the same thresholds above the least one are equal. -/
theorem eq_of_reach {α : Type} [LinearOrder α] [OrderBot α] {a b : α} (h : ∀ t, ⊥ < t → (t ≤ a ↔ t ≤ b)) : a = b := by
  refine le_antisymm ?_ ?_
  · rcases eq_or_lt_of_le (bot_le (a := a)) with e | e
    · rw [← e]; exact bot_le
    · exact (h a e).mp le_rfl
  · rcases eq_or_lt_of_le (bot_le (a := b)) with e | e
    · rw [← e]; exact bot_le
    · exact (h b e).mpr le_rfl

end Cert.TopK

end
-- ==== Proof.Fold.lean ====
/-
# The fold: the three largest values of every class of columns

At the exact instance, where values are extended reals. Column `j` of a device's block belongs to class
`j % 128`. For a threshold `t` above `-∞` the four lists the levels start from reach `t` as far as
the number of the class's columns that reach `t`, but at most three: `base_reach`.
-/
module

public import proofs.«01_k».proof.Proof.Cand
public import proofs.«01_k».proof.Proof.Counts
public import Idealize.ShloMosaic.Lib.ValueLayout
public import Idealize.ShloMosaic.Lib.Pipeline.Value
public import Idealize.ShloMosaic.PureOps.Ideal

@[expose] public section

noncomputable section

namespace Cert.TopK

open Cert.KernelIdeal Cert.KernelIdeal.Gen
open Idealize.ShloMosaic Idealize.ShloMosaic.ValueIdx

/-- Whether the array `X` reaches `t` in row `r` and column `q`. -/
def hit {R C : ℕ} (t : EReal) (X : FVec Ideal ⟨2, ![R, C]⟩ .f32) (r : Fin R) (q : ℕ) (hq : q < C) : Bool := decide (t ≤ X (ix2 r ⟨q, hq⟩))

/-- The larger of the two halves reaches `t` where one of them does. -/
theorem hit_max {R A W : ℕ} (t : EReal) (X : FVec Ideal ⟨2, ![R, A]⟩ .f32) (h0 : (⟨2, ![R, A]⟩ : Shape).Slices ![0, 0] ⟨2, ![R, W]⟩)
    (h1 : (⟨2, ![R, A]⟩ : Shape).Slices ![0, W] ⟨2, ![R, W]⟩) (hA : W + W = A) (r : Fin R) (q : ℕ) (hq : q < W) :
    hit t (maximumf (extractStridedSlice ⟨2, ![R, W]⟩ ![0, 0] X h0) (extractStridedSlice ⟨2, ![R, W]⟩ ![0, W] X h1)) r q hq
      = (hit t X r q (by omega) || hit t X r (W + q) (by omega)) := by
  show decide (t ≤ max (extractStridedSlice ⟨2, ![R, W]⟩ ![0, 0] X h0 _) (extractStridedSlice ⟨2, ![R, W]⟩ ![0, W] X h1 _)) = _
  rw [reach_max, slice2_axis1_apply 0 X h0 r ⟨q, hq⟩ ⟨q, by omega⟩ (Nat.zero_add q).symm, slice2_axis1_apply W X h1 r ⟨q, hq⟩ ⟨W + q, by omega⟩ rfl]
  rfl

/-- The smaller of the two halves reaches `t` where both do. -/
theorem hit_min {R A W : ℕ} (t : EReal) (X : FVec Ideal ⟨2, ![R, A]⟩ .f32) (h0 : (⟨2, ![R, A]⟩ : Shape).Slices ![0, 0] ⟨2, ![R, W]⟩)
    (h1 : (⟨2, ![R, A]⟩ : Shape).Slices ![0, W] ⟨2, ![R, W]⟩) (hA : W + W = A) (r : Fin R) (q : ℕ) (hq : q < W) :
    hit t (minimumf (extractStridedSlice ⟨2, ![R, W]⟩ ![0, 0] X h0) (extractStridedSlice ⟨2, ![R, W]⟩ ![0, W] X h1)) r q hq
      = (hit t X r q (by omega) && hit t X r (W + q) (by omega)) := by
  show decide (t ≤ min (extractStridedSlice ⟨2, ![R, W]⟩ ![0, 0] X h0 _) (extractStridedSlice ⟨2, ![R, W]⟩ ![0, W] X h1 _)) = _
  rw [reach_min, slice2_axis1_apply 0 X h0 r ⟨q, hq⟩ ⟨q, by omega⟩ (Nat.zero_add q).symm, slice2_axis1_apply W X h1 r ⟨q, hq⟩ ⟨W + q, by omega⟩ rfl]
  rfl

variable (x : FVec Ideal S512x4096 .f32) (t : EReal) (r : Fin 512)

/-- Row `r` of the block. -/
def row : Fin 4096 → EReal := fun j => x (ix2 r j)

/-- The columns of row `r` that reach `t`. -/
def col : ℕ → ℕ := marks t (row x r)

/-- Before the fold every column is a set of its own. -/
theorem known0 (q : ℕ) (hq : q < 4096) : Known (col x t r q) (hit t (top0 x) r q hq) [] := by
  have e : col x t r q = (hit t (top0 x) r q hq).toNat := by
    rw [top0, shapeCast_self]
    exact marks_val t (row x r) ⟨q, hq⟩
  rw [e]
  exact known_one _

/-- After one fold two columns share a place, -/
theorem known1 (q : ℕ) (hq : q < 2048) :
    Known (half 2048 (col x t r) q) (hit t (top1 x) r q hq) [hit t (low1 x) r q hq] := by
  have e := (known0 x t r q (by omega)).fold (Eq.refl 0) (known0 x t r (2048 + q) (by omega))
  rw [top1, low1, hit_max t _ _ _ rfl, hit_min t _ _ _ rfl]
  exact e

/-- after two folds four, -/
theorem known2 (q : ℕ) (hq : q < 1024) :
    Known (half 1024 (half 2048 (col x t r)) q) (hit t (top2 x) r q hq) [hit t (low2 x) r q hq, hit t (low1_2 x) r q hq] := by
  have e := (known1 x t r q (by omega)).fold (Eq.refl 1) (known1 x t r (1024 + q) (by omega))
  rw [top2, low2, low1_2, hit_max t _ _ _ rfl, hit_min t _ _ _ rfl, hit_max t _ _ _ rfl]
  exact e

/-- after three eight, -/
theorem known3 (q : ℕ) (hq : q < 512) :
    Known (half 512 (half 1024 (half 2048 (col x t r))) q) (hit t (top3 x) r q hq)
      [hit t (low3 x) r q hq, hit t (low2_3 x) r q hq, hit t (low1_3 x) r q hq] := by
  have e := (known2 x t r q (by omega)).fold (Eq.refl 2) (known2 x t r (512 + q) (by omega))
  rw [top3, low3, low2_3, low1_3, hit_max t _ _ _ rfl, hit_min t _ _ _ rfl, hit_max t _ _ _ rfl, hit_max t _ _ _ rfl]
  exact e

/-- after four sixteen, -/
theorem known4 (q : ℕ) (hq : q < 256) :
    Known (half 256 (half 512 (half 1024 (half 2048 (col x t r)))) q) (hit t (top4 x) r q hq)
      [hit t (low4 x) r q hq, hit t (low3_4 x) r q hq, hit t (low2_4 x) r q hq, hit t (low1_4 x) r q hq] := by
  have e := (known3 x t r q (by omega)).fold (Eq.refl 3) (known3 x t r (256 + q) (by omega))
  rw [top4, low4, low3_4, low2_4, low1_4, hit_max t _ _ _ rfl, hit_min t _ _ _ rfl, hit_max t _ _ _ rfl, hit_max t _ _ _ rfl,
    hit_max t _ _ _ rfl]
  exact e

/-- and after five all thirty-two columns of a class. -/
theorem known5 (q : ℕ) (hq : q < 128) :
    Known (classes (col x t r) q) (hit t (top5 x) r q hq)
      [hit t (low5 x) r q hq, hit t (low4_5 x) r q hq, hit t (low3_5 x) r q hq, hit t (low2_5 x) r q hq, hit t (low1_5 x) r q hq] := by
  have e := (known4 x t r q (by omega)).fold (Eq.refl 4) (known4 x t r (128 + q) (by omega))
  rw [top5, low5, low4_5, low3_5, low2_5, low1_5, hit_max t _ _ _ rfl, hit_min t _ _ _ rfl, hit_max t _ _ _ rfl, hit_max t _ _ _ rfl,
    hit_max t _ _ _ rfl, hit_max t _ _ _ rfl]
  exact e

/-! ## The second and the third -/

/-- Minus infinity is the least extended real. -/
theorem never_eq : (never : FVec Ideal S512x128 .f32) = fun _ => (⊥ : EReal) := by
  funext j
  show Ideal.ofBits .f32 0xFF800000#32 = ⊥
  simp [Ideal.ofBits, Ideal.ieee]

/-- What a pair of arrays reaches in row `r` and column `q`. -/
def hits (p : FVec Ideal S512x128 .f32 × FVec Ideal S512x128 .f32) (q : ℕ) (hq : q < 128) : Bool × Bool := (hit t p.1 r q hq, hit t p.2 r q hq)

/-- Putting a loser in, over truth values. -/
theorem hits_put (p : FVec Ideal S512x128 .f32 × FVec Ideal S512x128 .f32) (v : FVec Ideal S512x128 .f32) (q : ℕ) (hq : q < 128) :
    hits t r (put p v) q hq = putB (hits t r p q hq) (hit t v r q hq) := by
  refine Prod.ext ?_ ?_
  · exact reach_max t (p.1 _) (v _)
  · refine (reach_max t (p.2 _) (min (p.1 _) (v _))).trans ?_
    rw [reach_min]
    rfl

/-- The second reaches `t` if two of the class's columns do, the third if three do. -/
theorem hits_second (ht : ⊥ < t) (q : ℕ) (hq : q < 128) :
    hits t r (second x) q hq = (decide (2 ≤ classes (col x t r) q), decide (3 ≤ classes (col x t r) q)) := by
  have hn : hit t (never : FVec Ideal S512x128 .f32) r q hq = false := by
    rw [never_eq]
    exact decide_eq_false (not_le_of_gt ht)
  have k := known5 x t r q hq
  rw [second, hits_put, hits_put, hits_put, hits_put]
  show putB (putB (putB (putB (hit t (low5 x) r q hq, hit t never r q hq) _) _) _) _ = _
  rw [hn, putB_five, decide_eq_decide.mpr k.two, decide_eq_decide.mpr k.three]

/-- THE FOUR LISTS: class `q`'s values in row `r`, in descending order, reach `t` as far as the number of its columns
    that do, but at most three. -/
theorem base_reach (ht : ⊥ < t) (q : ℕ) (hq : q < 128) :
    Reach t 4 (min 3 (classes (col x t r) q)) (fun i => base x i (ix2 ⟨q, hq⟩ r)) := by
  have k := known5 x t r q hq
  have h2 := congrArg Prod.fst (hits_second x t r ht q hq)
  have h3 := congrArg Prod.snd (hits_second x t r ht q hq)
  intro i hi
  match i, hi with
  | 0, _ =>
    show t ≤ transpose S128x512 [1, 0] (top5 x) _ (ix2 ⟨q, hq⟩ r) ↔ _
    rw [transpose_ix2_apply, ← decide_eq_true_iff (p := t ≤ _)]
    exact k.one.trans (by omega)
  | 1, _ =>
    show t ≤ transpose S128x512 [1, 0] (second x).1 _ (ix2 ⟨q, hq⟩ r) ↔ _
    rw [transpose_ix2_apply]
    exact (decide_eq_decide.mp h2).trans (by omega)
  | 2, _ =>
    show t ≤ transpose S128x512 [1, 0] (second x).2 _ (ix2 ⟨q, hq⟩ r) ↔ _
    rw [transpose_ix2_apply]
    exact (decide_eq_decide.mp h3).trans (by omega)
  | 3, _ =>
    show t ≤ transpose S128x512 [1, 0] (never : FVec Ideal S512x128 .f32) _ (ix2 ⟨q, hq⟩ r) ↔ _
    rw [transpose_ix2_apply, never_eq]
    exact ⟨fun hle => absurd ht (not_lt_of_ge hle), fun hlt => by omega⟩
  | n + 4, hn => omega

end Cert.TopK

end
-- ==== Proof.Levels.lean ====
/-
# The levels: one list of sixteen for every row

Every level merges the lists of two classes, and the numbers of values that reach a threshold add. After
seven levels one list of sixteen is left, and it reaches `t` as far as the classes' numbers (each at most
three) add up to: `cand_reach`.
-/
module

public import proofs.«01_k».proof.Proof.Fold
public import proofs.«01_k».proof.Proof.Merge
public import Idealize.ShloMosaic.Lib.Pointwise

@[expose] public section

noncomputable section

namespace Cert.TopK

open Cert.KernelIdeal Cert.KernelIdeal.Gen
open Idealize.ShloMosaic hiding ix2
open Idealize.ShloMosaic.ValueIdx

/-! ## The networks on arrays, read at one place of the arrays -/

/-- A stage on arrays is, at a place, the stage on numbers. -/
theorem cx_at {s : Shape} (j : s.Idx) (d : ℕ) (u : ℕ → FVec Ideal s .f32) :
    (fun i => cx maximumf minimumf d u i j) = cx max min d fun i => (u i j : EReal) :=
  funext fun i => cx_map (fun v : FVec Ideal s .f32 => (v j : EReal)) maximumf minimumf max min (fun _ _ => rfl) (fun _ _ => rfl) d u i

/-- So is the first stage of a merge that keeps everything, -/
theorem grow_at {s : Shape} (j : s.Idx) (n : ℕ) (a b : ℕ → FVec Ideal s .f32) :
    (fun i => grow maximumf minimumf n a b i j) = grow max min n (fun i => (a i j : EReal)) fun i => (b i j : EReal) :=
  funext fun i => grow_map (fun v : FVec Ideal s .f32 => (v j : EReal)) maximumf minimumf max min (fun _ _ => rfl) (fun _ _ => rfl) n a b i

/-- and that of a merge that keeps sixteen. -/
theorem trim_at {s : Shape} (j : s.Idx) (a b : ℕ → FVec Ideal s .f32) :
    (fun i => trim maximumf a b i j) = trim max (fun i => (a i j : EReal)) fun i => (b i j : EReal) := rfl

/-! ## One level -/

section Level

variable {A h : ℕ} (t : EReal) (u : ℕ → FVec Ideal ⟨2, ![A, 512]⟩ .f32) (h0 : (⟨2, ![A, 512]⟩ : Shape).Slices ![0, 0] ⟨2, ![h, 512]⟩)
  (h1 : (⟨2, ![A, 512]⟩ : Shape).Slices ![h, 0] ⟨2, ![h, 512]⟩) (hA : h + h = A) (n : ℕ → ℕ) (r : Fin 512)
include hA

/-- The first half of the classes. -/
theorem Reach.first {L : ℕ} (hu : ∀ q (hq : q < A), Reach t L (n q) fun i => u i (ix2 ⟨q, hq⟩ r)) (q : ℕ) (hq : q < h) :
    Reach t L (n q) fun i => (extractStridedSlice ⟨2, ![h, 512]⟩ ![0, 0] (u i) h0 (ix2 ⟨q, hq⟩ r) : EReal) := by
  intro i hi
  beta_reduce
  rw [slice2_axis0_apply 0 (u i) h0 ⟨q, hq⟩ r ⟨q, by omega⟩ (Nat.zero_add q).symm]
  exact hu q _ i hi

/-- The second half. -/
theorem Reach.other {L : ℕ} (hu : ∀ q (hq : q < A), Reach t L (n q) fun i => u i (ix2 ⟨q, hq⟩ r)) (q : ℕ) (hq : q < h) :
    Reach t L (n (h + q)) fun i => (extractStridedSlice ⟨2, ![h, 512]⟩ ![h, 0] (u i) h1 (ix2 ⟨q, hq⟩ r) : EReal) := by
  intro i hi
  beta_reduce
  rw [slice2_axis0_apply h (u i) h1 ⟨q, hq⟩ r ⟨h + q, by omega⟩ rfl]
  exact hu (h + q) _ i hi

/-- A level whose lists grow from four to eight. -/
theorem level4 (hn : ∀ q < A, n q ≤ 4) (hu : ∀ q (hq : q < A), Reach t 4 (n q) fun i => u i (ix2 ⟨q, hq⟩ r)) (q : ℕ) (hq : q < h) :
    Reach t 8 (half h n q) fun i => (cx maximumf minimumf 1 (cx maximumf minimumf 2 (grow maximumf minimumf 4
      (fun i => extractStridedSlice ⟨2, ![h, 512]⟩ ![0, 0] (u i) h0) fun i => extractStridedSlice ⟨2, ![h, 512]⟩ ![h, 0] (u i) h1)) i
        (ix2 ⟨q, hq⟩ r) : EReal) := by
  rw [cx_at, cx_at, grow_at]
  exact Reach.grow4 (hn q (by omega)) (hn (h + q) (by omega)) (Reach.first t u h0 hA n r hu q hq) (Reach.other t u h1 hA n r hu q hq)

/-- A level whose lists grow from eight to sixteen. -/
theorem level8 (hn : ∀ q < A, n q ≤ 8) (hu : ∀ q (hq : q < A), Reach t 8 (n q) fun i => u i (ix2 ⟨q, hq⟩ r)) (q : ℕ) (hq : q < h) :
    Reach t 16 (half h n q) fun i => (cx maximumf minimumf 1 (cx maximumf minimumf 2 (cx maximumf minimumf 4 (grow maximumf minimumf 8
      (fun i => extractStridedSlice ⟨2, ![h, 512]⟩ ![0, 0] (u i) h0) fun i => extractStridedSlice ⟨2, ![h, 512]⟩ ![h, 0] (u i) h1))) i
        (ix2 ⟨q, hq⟩ r) : EReal) := by
  rw [cx_at, cx_at, cx_at, grow_at]
  exact Reach.grow8 (hn q (by omega)) (hn (h + q) (by omega)) (Reach.first t u h0 hA n r hu q hq) (Reach.other t u h1 hA n r hu q hq)

/-- A level that keeps sixteen. -/
theorem level16 (hu : ∀ q (hq : q < A), Reach t 16 (n q) fun i => u i (ix2 ⟨q, hq⟩ r)) (q : ℕ) (hq : q < h) :
    Reach t 16 (half h n q) fun i => (cx maximumf minimumf 1 (cx maximumf minimumf 2 (cx maximumf minimumf 4 (cx maximumf minimumf 8
      (trim maximumf (fun i => extractStridedSlice ⟨2, ![h, 512]⟩ ![0, 0] (u i) h0)
        fun i => extractStridedSlice ⟨2, ![h, 512]⟩ ![h, 0] (u i) h1)))) i (ix2 ⟨q, hq⟩ r) : EReal) := by
  rw [cx_at, cx_at, cx_at, cx_at, trim_at]
  exact Reach.trim (Reach.first t u h0 hA n r hu q hq) (Reach.other t u h1 hA n r hu q hq)

end Level

/-! ## The seven levels -/

variable (x : FVec Ideal S512x4096 .f32) (t : EReal) (r : Fin 512)

/-- The numbers the levels start from. -/
def few : ℕ → ℕ := fun q => min 3 (classes (col x t r) q)

variable (ht : ⊥ < t)
include ht

/-- Level 1. -/
theorem reach1 (q : ℕ) (hq : q < 64) : Reach t 8 (half 64 (few x t r) q) fun i => c1_1 x i (ix2 ⟨q, hq⟩ r) :=
  level4 t (base x) slices_S128x512_o0_0_S64x512 slices_S128x512_o64_0_S64x512 rfl (few x t r) r
    (fun _ _ => le_trans (Nat.min_le_left _ _) (by decide)) (fun q hq => base_reach x t r ht q hq) q hq

/-- Level 2. -/
theorem reach2 (q : ℕ) (hq : q < 32) : Reach t 16 (half 32 (half 64 (few x t r)) q) fun i => c2_1 x i (ix2 ⟨q, hq⟩ r) :=
  level8 t (c1_1 x) slices_S64x512_o0_0_S32x512 slices_S64x512_o32_0_S32x512 rfl (half 64 (few x t r)) r
    (fun _ _ => le_trans (Nat.add_le_add (Nat.min_le_left _ _) (Nat.min_le_left _ _)) (by decide)) (reach1 x t r ht) q hq

/-- Level 3. -/
theorem reach3 (q : ℕ) (hq : q < 16) : Reach t 16 (half 16 (half 32 (half 64 (few x t r))) q) fun i => c3_1 x i (ix2 ⟨q, hq⟩ r) :=
  level16 t (c2_1 x) slices_S32x512_o0_0_S16x512 slices_S32x512_o16_0_S16x512 rfl _ r (reach2 x t r ht) q hq

/-- Level 4. -/
theorem reach4 (q : ℕ) (hq : q < 8) :
    Reach t 16 (half 8 (half 16 (half 32 (half 64 (few x t r)))) q) fun i => c4_1 x i (ix2 ⟨q, hq⟩ r) :=
  level16 t (c3_1 x) slices_S16x512_o0_0_S8x512 slices_S16x512_o8_0_S8x512 rfl _ r (reach3 x t r ht) q hq

/-- Level 5. -/
theorem reach5 (q : ℕ) (hq : q < 4) :
    Reach t 16 (half 4 (half 8 (half 16 (half 32 (half 64 (few x t r))))) q) fun i => c5_1 x i (ix2 ⟨q, hq⟩ r) :=
  level16 t (c4_1 x) slices_S8x512_o0_0_S4x512 slices_S8x512_o4_0_S4x512 rfl _ r (reach4 x t r ht) q hq

/-- Level 6. -/
theorem reach6 (q : ℕ) (hq : q < 2) :
    Reach t 16 (half 2 (half 4 (half 8 (half 16 (half 32 (half 64 (few x t r)))))) q) fun i => c6_1 x i (ix2 ⟨q, hq⟩ r) :=
  level16 t (c5_1 x) slices_S4x512_o0_0_S2x512 slices_S4x512_o2_0_S2x512 rfl _ r (reach5 x t r ht) q hq

/-- Level 7: one class is left, and its number is the sum over all classes. -/
theorem reach7 : Reach t 16 (∑ q ∈ Finset.range 128, few x t r q) fun i => c7_1 x i (ix2 (0 : Fin 1) r) := by
  have e : ∑ q ∈ Finset.range 128, few x t r q = half 1 (half 2 (half 4 (half 8 (half 16 (half 32 (half 64 (few x t r))))))) 0 := by
    rw [← sum_half 64, ← sum_half 32, ← sum_half 16, ← sum_half 8, ← sum_half 4, ← sum_half 2, ← sum_half 1, Finset.sum_range_one]
  rw [e]
  exact level16 t (c6_1 x) slices_S2x512_o0_0_S1x512 slices_S2x512_o1_0_S1x512 rfl _ r (reach6 x t r ht) 0 (by decide)

omit ht in
/-- Row `i` of a device's list is the last level's entry `i`. -/
theorem cand_row (i : Fin 16) : cand x (ix2 i r) = c7_1 x i.val (ix2 (0 : Fin 1) r) := by
  rw [← ix2_eq_valueIdx, ← ix2_eq_valueIdx]
  fin_cases i <;> pointwise [cand]

/-- A DEVICE'S LIST: row `i` of it reaches `t`, in column `r`, as far as the classes' numbers, each at most three, add up to. -/
theorem cand_reach (i : Fin 16) : t ≤ cand x (ix2 i r) ↔ i.val < ∑ q ∈ Finset.range 128, few x t r q := by
  rw [cand_row]
  exact reach7 x t r ht i.val i.isLt

end Cert.TopK

end
-- ==== Proof.MergeValue.lean ====
/-
# The merge of a device's list with its peer's

At the exact instance. If the two lists reach a threshold as far as `p` and `q`, row `r` of the result
reaches it as far as `p + q`: `merged_reach`.
-/
module

public import proofs.«01_k».proof.Proof.Levels

@[expose] public section

noncomputable section

namespace Cert.TopK

open Cert.KernelIdeal Cert.KernelIdeal.Gen
open Idealize.ShloMosaic hiding ix2
open Idealize.ShloMosaic.ValueIdx

variable (v a y : FVec Ideal S16x512 .f32) (r : Fin 512)

/-- Column `r` of an array of sixteen rows as a list. -/
def line : ℕ → EReal := fun i => if h : i < 16 then v (ix2 ⟨i, h⟩ r) else ⊥

/-- The first stage at a place. -/
theorem met_row (i : Fin 16) : met a y (ix2 i r) = trim max (line a r) (line y r) i.val := by
  rw [← ix2_eq_valueIdx]
  fin_cases i <;> pointwise [met, rev] <;> simp only [ix2_eq_valueIdx] <;> rfl

/-- The stage at distance 8 at a place, -/
theorem stage8_row (i : Fin 16) : stage 8#32 v (swap8 v) (ix2 i r) = cx max min 8 (line v r) i.val := by
  rw [← ix2_eq_valueIdx]
  fin_cases i <;> pointwise [stage, swap8, rows] <;> simp only [ix2_eq_valueIdx] <;> first | rfl | exact min_comm _ _

/-- at distance 4, -/
theorem stage4_row (i : Fin 16) : stage 4#32 v (swap4 v) (ix2 i r) = cx max min 4 (line v r) i.val := by
  rw [← ix2_eq_valueIdx]
  fin_cases i <;> pointwise [stage, swap4, rows] <;> simp only [ix2_eq_valueIdx] <;> first | rfl | exact min_comm _ _

/-- at distance 2, -/
theorem stage2_row (i : Fin 16) : stage 2#32 v (swap2 v) (ix2 i r) = cx max min 2 (line v r) i.val := by
  rw [← ix2_eq_valueIdx]
  fin_cases i <;> pointwise [stage, swap2, rows] <;> simp only [ix2_eq_valueIdx] <;> first | rfl | exact min_comm _ _

/-- and at distance 1. -/
theorem stage1_row (i : Fin 16) : stage 1#32 v (swap1 v) (ix2 i r) = cx max min 1 (line v r) i.val := by
  rw [← ix2_eq_valueIdx]
  fin_cases i <;> pointwise [stage, swap1, rows] <;> simp only [ix2_eq_valueIdx] <;> first | rfl | exact min_comm _ _

/-- A column read as a list, at a place of it. -/
theorem line_val (i : Fin 16) : line v r i.val = v (ix2 i r) := dif_pos i.isLt

/-- An array that is at every place what a list is, is that list. -/
theorem line_eq (s : ℕ → EReal) (h : ∀ i : Fin 16, v (ix2 i r) = s i.val) : ∀ i < 16, line v r i = s i := fun i hi =>
  (line_val v r ⟨i, hi⟩).trans (h ⟨i, hi⟩)

/-- The merged list is the network's. -/
theorem met1_row (i : Fin 16) : met1 a y (ix2 i r)
    = cx max min 1 (cx max min 2 (cx max min 4 (cx max min 8 (trim max (line a r) (line y r))))) i.val := by
  rw [met1, stage1_row]
  refine cx_congr _ _ (n := 16) (by decide) (fun k hk => ?_) i.val i.isLt
  rw [line_eq (met2 a y) r _ (fun i => stage2_row (met4 a y) r i) k hk]
  refine cx_congr _ _ (n := 16) (by decide) (fun k hk => ?_) k hk
  rw [line_eq (met4 a y) r _ (fun i => stage4_row (met8 a y) r i) k hk]
  refine cx_congr _ _ (n := 16) (by decide) (fun k hk => ?_) k hk
  rw [line_eq (met8 a y) r _ (fun i => stage8_row (met a y) r i) k hk]
  exact cx_congr _ _ (n := 16) (by decide) (line_eq (met a y) r _ (met_row a y r)) k hk

/-- THE MERGE: the numbers of the values that reach a threshold add. -/
theorem merged_reach (t : EReal) (p q : ℕ) (ha : ∀ i : Fin 16, t ≤ a (ix2 i r) ↔ i.val < p)
    (hy : ∀ i : Fin 16, t ≤ y (ix2 i r) ↔ i.val < q) (i : Fin 16) : t ≤ merged a y (ix2 r i) ↔ i.val < p + q := by
  have hr : ∀ (w : FVec Ideal S16x512 .f32) (c : ℕ), (∀ i : Fin 16, t ≤ w (ix2 i r) ↔ i.val < c) → Reach t 16 c (line w r) := by
    intro w c h k hk
    rw [line_val w r ⟨k, hk⟩]
    exact h ⟨k, hk⟩
  rw [merged, transpose_ix2_apply, met1_row]
  exact Reach.trim (hr a p ha) (hr y q hy) i.val i.isLt

end Cert.TopK

end
-- ==== Proof.Sorted.lean ====
/-
# The stable sort of the rows, largest value first

The reference and the precondition both sort the negated rows of an array, carrying the column numbers along.
At the exact instance the printed comparator compares the values alone, so that place `l` of row `r` of the
carried array holds the number of a column `order v l`, where `v` is the row; the values descend along it.
-/
module

public import Idealize.ShloMosaic.Lib.SortFacts
public import Idealize.ShloMosaic.Lib.ValueLayout
public import Idealize.ShloMosaic.PureOps.Ideal

@[expose] public section

noncomputable section

namespace Cert.TopK

open Idealize.ShloMosaic
open Idealize.ShloMosaic.ValueIdx

/-- The column at place `l` of the row `v` in descending order, equal values in the columns' order. -/
def order {n : ℕ} (v : Fin n → EReal) : Fin n → Fin n := sortedFrom fun k k' => decide (v k' < v k)

/-- Every column stands at exactly one place. -/
theorem order_bijective {n : ℕ} (v : Fin n → EReal) : Function.Bijective (order v) := ⟨sortedFrom_injective _, sortedFrom_surjective _⟩

/-- The values descend. -/
theorem order_desc {n : ℕ} (v : Fin n → EReal) (i j : Fin n) (hij : i < j) : v (order v j) ≤ v (order v i) := by
  have h := sortedFrom_noInversion (fun k k' => decide (v k' < v k)) (fun k k' => decide (v k' < v k))
    (fun a b hab => decide_eq_false (not_lt_of_gt (of_decide_eq_true hab))) (fun _ _ h => h)
    (fun a b c hab hbc => decide_eq_false (not_lt_of_ge (le_trans (le_of_not_gt (of_decide_eq_false hab)) (le_of_not_gt (of_decide_eq_false hbc)))))
    i j hij
  exact le_of_not_gt (of_decide_eq_false h)

/-- What the printed comparator does: zeros of both signs and numbers that are none are made equal first, then the total
    order compares. -/
def isLess (l r : Ideal .f32 × BitVec 32) : BitVec 1 :=
  FloatOps.cmpfTotal .lt
    (Scalar.select (FloatOps.cmpf .une l.1 l.1) (FloatOps.ofBits .f32 0x7FC00000#32)
      (Scalar.select (FloatOps.cmpf .oeq l.1 (FloatOps.ofBits .f32 0x00000000#32)) (FloatOps.ofBits .f32 0x00000000#32) l.1))
    (Scalar.select (FloatOps.cmpf .une r.1 r.1) (FloatOps.ofBits .f32 0x7FC00000#32)
      (Scalar.select (FloatOps.cmpf .oeq r.1 (FloatOps.ofBits .f32 0x00000000#32)) (FloatOps.ofBits .f32 0x00000000#32) r.1))

/-- Making the zeros equal changes no extended real, and every extended real is one. -/
theorem canonical (a : Ideal .f32) : Scalar.select (FloatOps.cmpf .une a a) (FloatOps.ofBits .f32 0x7FC00000#32)
      (Scalar.select (FloatOps.cmpf .oeq a (FloatOps.ofBits .f32 0x00000000#32)) (FloatOps.ofBits .f32 0x00000000#32) a) = a := by
  have h1 : (FloatOps.cmpf .une a a : BitVec 1) = 0#1 := by
    show BitVec.ofBool (decide (a ≠ a)) = 0#1
    rw [decide_eq_false (fun h => h rfl)]
    rfl
  rw [h1]
  show Scalar.select (BitVec.ofBool (decide (a = FloatOps.ofBits .f32 0x00000000#32))) (FloatOps.ofBits .f32 0x00000000#32) a = a
  by_cases h : a = FloatOps.ofBits .f32 0x00000000#32
  · rw [decide_eq_true h]
    exact h.symm
  · rw [decide_eq_false h]
    rfl

/-- The comparator compares the values. -/
theorem isLess_eq (l r : Ideal .f32 × BitVec 32) : (isLess l r == 1#1) = decide (l.1 < r.1) := by
  rw [isLess, canonical, canonical]
  show (BitVec.ofBool (decide (l.1 < r.1)) == 1#1) = _
  cases decide (l.1 < r.1) <;> rfl

/-- Moving along a row. -/
theorem along_ix2 {R n : ℕ} (r : Fin R) (l k : Fin n) (h : 1 < (⟨2, ![R, n]⟩ : Shape).rank) :
    (ix2 r l : (⟨2, ![R, n]⟩ : Shape).Idx).along ⟨1, h⟩ k = ix2 r k := by
  funext a
  match a with
  | ⟨0, _⟩ => rfl
  | ⟨1, _⟩ => rfl

/-- THE SORT: what is carried to place `l` of row `r` is the number of the column `order` names. -/
theorem sort_row {R n : ℕ} (x : FVec Ideal ⟨2, ![R, n]⟩ .f32) (r : Fin R) (l : Fin n) :
    (Host.sort2 ⟨2, ![R, n]⟩ 1 isLess (Host.negf x) (iotaInDim ⟨2, ![R, n]⟩ 32 1)).2 (ix2 r l)
      = BitVec.ofNat 32 (order (fun k => x (ix2 r k)) l).val := by
  have hd : 1 < (⟨2, ![R, n]⟩ : Shape).rank := Nat.one_lt_two
  have hs : (sortedFrom fun k k' : Fin n => isLess
      (Host.negf x ((ix2 r l : (⟨2, ![R, n]⟩ : Shape).Idx).along ⟨1, hd⟩ k), iotaInDim ⟨2, ![R, n]⟩ 32 1 ((ix2 r l : (⟨2, ![R, n]⟩ : Shape).Idx).along ⟨1, hd⟩ k))
      (Host.negf x ((ix2 r l : (⟨2, ![R, n]⟩ : Shape).Idx).along ⟨1, hd⟩ k'), iotaInDim ⟨2, ![R, n]⟩ 32 1 ((ix2 r l : (⟨2, ![R, n]⟩ : Shape).Idx).along ⟨1, hd⟩ k'))
        == 1#1) = order fun k => x (ix2 r k) := by
    unfold order
    congr 1
    funext k k'
    rw [isLess_eq, along_ix2, along_ix2]
    show decide (-(x (ix2 r k) : EReal) < -(x (ix2 r k') : EReal)) = _
    rw [decide_eq_decide]
    exact EReal.neg_lt_neg_iff
  unfold Host.sort2
  rw [dif_pos hd]
  exact congrArg (fun o : Fin n → Fin n => BitVec.ofNat 32 (o l).val) hs

end Cert.TopK

end
-- ==== Proof.Reference.lean ====
/-
# What the reference computes

At the exact instance. The reference sorts every row of 8192 columns, largest value first, takes the numbers of the
first sixteen columns and reads the row there: `result x`. None of these numbers is negative or too large, so that
place `l` of row `r` holds the row's value in the column `order` names: `result_apply`.
-/
module

public import proofs.«01_k».proof.Proof.Counts
public import proofs.«01_k».proof.Proof.Sorted
public import proofs.«01_k».proof.Proof.Gen.ReferenceIdeal.Run
public import Idealize.ShloMosaic.Lib.Pointwise

@[expose] public section

noncomputable section

namespace Cert.TopK.Ref

open Cert.ReferenceIdeal Cert.ReferenceIdeal.Gen
open Idealize.ShloMosaic

variable (x : FVec Ideal S512x8192 .f32)

/-- The numbers of the first sixteen columns, -/
def first : IVec S512x16 32 :=
  extractStridedSlice S512x16 ![0, 0] ((Host.sort2 S512x8192 1 comparator_f32_i32_d1 (Host.negf x) (iotaInDim S512x8192 32 1)).2) slices_S512x8192_S512x16_0_0

/-- counted from the end where they are negative, -/
def counted : IVec S512x16 32 :=
  select (cmpi .slt (first x) (broadcastInDim S512x16 ![] bcast_S_S512x16 (constantI S_ 32 0#32)))
    (addi (first x) (broadcastInDim S512x16 ![] bcast_S_S512x16 (constantI S_ 32 8192#32))) (first x)

/-- as the reading takes them. -/
def places : IVec S512x16x1 32 := shapeCast _ (counted x) shapeCasts_S512x16_S512x16x1

/-- Which of them lie in the row. -/
def inside : IVec S512x16 1 :=
  Host.reduce IntOp.andi (andi (cmpi .sge (places x) (broadcastInDim S512x16x1 ![] bcast_S_S512x16x1 (constantI S_ 32 0#32)))
    (cmpi .sle (places x) (broadcastInDim S512x16x1 ![0, 1, 2] bcast_S1x1x1_S512x16x1_0_1_2 (broadcastInDim S1x1x1 ![2] bcast_S1_S1x1x1_2 (constantI S1 32 8191#32)))))
    (constantI S_ 1 1#1) reducesTo_S512x16x1_S512x16_d2 h_S_

/-- The values read, -/
def taken : FVec Ideal S512x16 .f32 := Host.gather gather_S512x8192_S512x16x1_S512x16_n_1_0_0_1_2_11 x (places x)

/-- and the result: a value that is none where the place lies outside. -/
def result : FVec Ideal S512x16 .f32 := select (inside x) (taken x) (broadcastInDim S512x16 ![] bcast_S_S512x16 (constant S_ .f32 0x7FC00000#32))

variable (r : Fin 512) (l : Fin 16)

/-- Row `r`. -/
def line : Fin 8192 → EReal := fun k => x (ValueIdx.ix2 r k)

/-- The column at place `l` of row `r`. -/
def column : Fin 8192 := order (line x r) ⟨l.val, by omega⟩

/-- The number of that column is what the sort leaves there. -/
theorem first_apply : first x (ValueIdx.ix2 r l) = BitVec.ofNat 32 (column x r l).val := by
  have h := sort_row x r ⟨l.val, by omega⟩
  unfold first column
  refine Eq.trans ?_ h
  exact ValueIdx.slice2_axis1_apply (α := BitVec 32) 0 _ slices_S512x8192_S512x16_0_0 r l ⟨l.val, by omega⟩ (Nat.zero_add _).symm

/-- A column's number as a word is itself, read with a sign: -/
theorem word_toInt (n : ℕ) (h : n < 8192) : (BitVec.ofNat 32 n).toInt = n := by
  rw [BitVec.toInt_eq_toNat_of_lt] <;> simp only [BitVec.toNat_ofNat] <;> omega

/-- it is not negative, -/
theorem word_slt (n : ℕ) (h : n < 8192) : IntOp.cmpi .slt (BitVec.ofNat 32 n) 0#32 = 0#1 := by
  have e := word_toInt n h
  have : BitVec.slt (BitVec.ofNat 32 n) 0#32 = false := by
    rw [BitVec.slt, e, BitVec.toInt_zero]
    exact decide_eq_false (by omega)
  rw [IntOp.cmpi, this]
  rfl

/-- it is at least zero -/
theorem word_sge (n : ℕ) (h : n < 8192) : IntOp.cmpi .sge (BitVec.ofNat 32 n) 0#32 = 1#1 := by
  have e := word_toInt n h
  have : BitVec.sle 0#32 (BitVec.ofNat 32 n) = true := by
    rw [BitVec.sle, e, BitVec.toInt_zero]
    exact decide_eq_true (by omega)
  rw [IntOp.cmpi, this]
  rfl

/-- and at most 8191. -/
theorem word_sle (n : ℕ) (h : n < 8192) : IntOp.cmpi .sle (BitVec.ofNat 32 n) 8191#32 = 1#1 := by
  have e := word_toInt n h
  have : BitVec.sle (BitVec.ofNat 32 n) 8191#32 = true := by
    rw [BitVec.sle, e, word_toInt 8191 (by omega)]
    exact decide_eq_true (by omega)
  rw [IntOp.cmpi, this]
  rfl

/-- So counting from the end does nothing. -/
theorem counted_apply : counted x (ValueIdx.ix2 r l) = BitVec.ofNat 32 (column x r l).val := by
  have h := word_slt _ (column x r l).isLt
  rw [← first_apply] at h ⊢
  rw [← ix2_eq_valueIdx] at h ⊢
  pointwise [counted]
  rw [h]
  rfl

/-- The places are these numbers. -/
theorem places_apply : places x (ix3 r l 0) = BitVec.ofNat 32 (column x r l).val := by
  rw [← counted_apply, ← ix2_eq_valueIdx]
  pointwise [places]

/-- Every place lies in the row. -/
theorem inside_apply : inside x (ValueIdx.ix2 r l) = 1#1 := by
  have h1 := word_sge _ (column x r l).isLt
  have h2 := word_sle _ (column x r l).isLt
  rw [← places_apply] at h1 h2
  rw [← ix2_eq_valueIdx]
  pointwise [inside]
  rw [show (Finset.univ : Finset (Fin 1)) = {0} from rfl, Finset.fold_singleton, h1, h2]
  rfl

/-- The place result entry `(r, l)` reads its start from. -/
theorem start_place (k : Fin 1) :
    gather_S512x8192_S512x16x1_S512x16_n_1_0_0_1_2_11.siIdx (ValueIdx.ix2 r l) k = ix3 r l 0 := by
  funext b
  match b with
  | ⟨0, _⟩ => rfl
  | ⟨1, _⟩ => rfl
  | ⟨2, _⟩ => exact Fin.ext (by show k.val = 0; omega)

/-- The column it starts at is that place's entry, kept inside the row. -/
theorem start_apply (p : IVec S512x16x1 32) :
    GatherDims.start gather_S512x8192_S512x16x1_S512x16_n_1_0_0_1_2_11 (ValueIdx.ix2 r l) p (1 : Fin 2)
      = min (p (ix3 r l 0)).toInt.toNat 8191 := by
  unfold GatherDims.start
  have hm : (1 : Fin 2) ∈ gather_S512x8192_S512x16x1_S512x16_n_1_0_0_1_2_11.startIndexMap := List.mem_singleton.2 rfl
  rw [dif_pos hm]
  exact congrArg (fun i => min (p i).toInt.toNat 8191) (start_place r l _)

/-- The reading: row `r` at the place named. -/
theorem taken_apply : taken x (ValueIdx.ix2 r l) = x (ValueIdx.ix2 r (column x r l)) := by
  have e := word_toInt _ (column x r l).isLt
  have hlt := (column x r l).isLt
  unfold taken Host.gather
  refine congrArg x (funext fun a => Fin.ext ?_)
  show GatherDims.start gather_S512x8192_S512x16x1_S512x16_n_1_0_0_1_2_11 (ValueIdx.ix2 r l) (places x) a
    + GatherDims.batchCoord gather_S512x8192_S512x16x1_S512x16_n_1_0_0_1_2_11 (ValueIdx.ix2 r l) a
    + GatherDims.offCoord gather_S512x8192_S512x16x1_S512x16_n_1_0_0_1_2_11 (ValueIdx.ix2 r l) a = _
  have ha : a = (0 : Fin 2) ∨ a = (1 : Fin 2) := by
    match a with
    | ⟨0, _⟩ => exact Or.inl rfl
    | ⟨1, _⟩ => exact Or.inr rfl
  obtain rfl | rfl := ha
  · rw [GatherDims.start_batching _ _ _ _ (by decide), GatherDims.offCoord_eq_zero _ _ _ (by decide), Nat.zero_add, Nat.add_zero]
    rfl
  · rw [GatherDims.batchCoord_eq_zero _ _ _ (by decide), GatherDims.offCoord_eq_zero _ _ _ (by decide)]
    rw [start_apply, places_apply, e, Int.toNat_natCast]
    simp only [Nat.add_zero]
    exact Nat.min_eq_left (Nat.le_of_lt_succ (column x r l).isLt)

/-- THE REFERENCE: place `l` of row `r` holds the value of the row's column at place `l` in descending order. -/
theorem result_apply : result x (ValueIdx.ix2 r l) = x (ValueIdx.ix2 r (column x r l)) := by
  have h := inside_apply x r l
  rw [← taken_apply x r l]
  rw [← ix2_eq_valueIdx] at h ⊢
  pointwise [result]
  rw [h]
  rfl

/-- The result by thresholds: place `l` of row `r` reaches `t` when more than `l` columns of the row do. -/
theorem result_reach (t : EReal) : t ≤ result x (ValueIdx.ix2 r l) ↔ l.val < ∑ j ∈ Finset.range 8192, marks t (line x r) j := by
  have h := sorted_reach (line x r) (order (line x r)) (order_bijective _) (order_desc (line x r)) t ⟨l.val, by omega⟩
  rw [← sum_marks] at h
  exact (Eq.to_iff (congrArg (t ≤ ·) (result_apply x r l))).trans h

end Cert.TopK.Ref

end
-- ==== Proof.Spread.lean ====
/-
# What the precondition says

Of one device's block. For every row it lists the columns of the sixteen largest values in descending order, takes
their numbers modulo 128, and counts for every place the places of the same remainder: at most three (`spread_row`).
Then the sixteen columns are a set with at most three columns in every class, and keeping the three largest of
every class loses nothing that the sixteen largest could need (`few_sum`).
-/
module

public import proofs.«01_k».proof.Proof.Counts
public import proofs.«01_k».proof.Proof.Sorted
public import proofs.«01_k».proof.Pre_spread_KernelIdeal
public import Idealize.ShloMosaic.Lib.Pointwise
public import Idealize.ShloMosaic.Lib.IndicatorCount
public import Idealize.ShloMosaic.Lib.Affine

@[expose] public section

noncomputable section

namespace Cert.TopK

open Idealize.ShloMosaic hiding ix2

/-! ## The side conditions -/

/-- The sizes in the precondition fit together. -/
instance spread_facts : Cert.Pre_spread_KernelIdeal.Facts where
  slices_S512x4096_S512x16_0_0 := by decide
  bcast_S_S512x16 := by decide
  bcast_S512x16_S512x16x1_0_1 := by decide
  bcast_S512x16_S512x1x16_0_2 := by decide
  bcast_S512x16x1_S512x16x16_0_1_2 := by decide
  bcast_S512x1x16_S512x16x16_0_1_2 := by decide
  natLt_1_32 := by decide
  reducesTo_S512x16x16_S512x16_d2 := by decide
  h_S_ := by decide

/-! ## The sixteen columns -/

/-- One of the first sixteen places of a row. -/
def place (l : Fin 16) : Fin 4096 := ⟨l.val, by omega⟩

section Row

variable (v : Fin 4096 → EReal)

/-- The number of the column at one of these places. -/
def chosen (l : Fin 16) : ℕ := (order v (place l)).val

/-- The sixteen columns are different. -/
theorem chosen_injective : Function.Injective (chosen v) := fun a b h =>
  Fin.ext (Fin.mk.inj_iff.1 ((order_bijective v).injective (Fin.ext h)))

/-- Whether a column is one of the sixteen. -/
def mark (j : ℕ) : ℕ := if ∃ l, chosen v l = j then 1 else 0

/-- They are sixteen. -/
theorem sum_mark : ∑ j ∈ Finset.range 4096, mark v j = 16 := by
  have e : (Finset.range 4096).filter (fun j => ∃ l, chosen v l = j) = Finset.univ.image (chosen v) := by
    ext j
    simp only [Finset.mem_filter, Finset.mem_range, Finset.mem_image, Finset.mem_univ, true_and, and_iff_right_iff_imp]
    rintro ⟨l, rfl⟩
    exact (order v (place l)).isLt
  unfold mark
  rw [← Finset.card_filter, e, Finset.card_image_of_injective _ (chosen_injective v), Finset.card_univ, Fintype.card_fin]

/-- No class holds more than three of them when no place shares its remainder with more than three places. -/
theorem classes_mark (hv : ∀ l : Fin 16, (Finset.univ.filter fun k : Fin 16 => chosen v l % 128 = chosen v k % 128).card ≤ 3)
    (q : ℕ) (hq : q < 128) : classes (mark v) q ≤ 3 := by
  have e : (Finset.range 32).filter (fun m => ∃ l, chosen v l = 128 * m + q)
      ⊆ (Finset.univ.filter fun k : Fin 16 => q = chosen v k % 128).image fun k => chosen v k / 128 := by
    intro m hm
    obtain ⟨-, l, hl⟩ := Finset.mem_filter.1 hm
    exact Finset.mem_image.2 ⟨l, Finset.mem_filter.2 ⟨Finset.mem_univ l, by omega⟩, by omega⟩
  have h3 : (Finset.univ.filter fun k : Fin 16 => q = chosen v k % 128).card ≤ 3 := by
    by_cases h : ∃ l, chosen v l % 128 = q
    · obtain ⟨l, rfl⟩ := h
      exact hv l
    · rw [Finset.filter_eq_empty_iff.2 fun k _ hk => h ⟨k, hk.symm⟩]
      exact Nat.zero_le 3
  rw [classes_eq]
  unfold mark
  rw [← Finset.card_filter]
  exact (Finset.card_le_card e).trans (Finset.card_image_le.trans h3)

/-- The columns reaching a value all are among the sixteen, or the sixteen all reach it. -/
theorem marks_or (t : EReal) : (∀ j, marks t v j ≤ mark v j) ∨ ∀ j, mark v j ≤ marks t v j := by
  by_cases hall : ∀ l, t ≤ v (order v (place l))
  · refine Or.inr fun j => ?_
    unfold mark
    split
    · next h =>
      obtain ⟨l, rfl⟩ := h
      rw [chosen, marks_val, decide_eq_true (hall l)]
      exact Nat.le_refl 1
    · exact Nat.zero_le _
  · obtain ⟨l₀, h₀⟩ := not_forall.1 hall
    refine Or.inl fun j => ?_
    by_cases hj : j < 4096
    · obtain ⟨i, hi⟩ := (order_bijective v).surjective ⟨j, hj⟩
      by_cases h16 : i.val < 16
      · have hm : mark v j = 1 := if_pos ⟨⟨i.val, h16⟩, congrArg Fin.val hi⟩
        rw [hm, marks, dif_pos hj]
        exact Bool.toNat_le _
      · have hd := order_desc v (place l₀) i (by show l₀.val < i.val; omega)
        rw [hi] at hd
        rw [marks, dif_pos hj, decide_eq_false fun h => h₀ (h.trans hd)]
        exact Nat.zero_le _
    · rw [marks, dif_neg hj]
      exact Nat.zero_le _

/-- THREE OF EVERY CLASS ARE ENOUGH: up to sixteen, as many columns reach a value when every class counts for three at
    most. -/
theorem few_sum (hv : ∀ l : Fin 16, (Finset.univ.filter fun k : Fin 16 => chosen v l % 128 = chosen v k % 128).card ≤ 3) (t : EReal) :
    min 16 (∑ q ∈ Finset.range 128, min 3 (classes (marks t v) q)) = min 16 (∑ j ∈ Finset.range 4096, marks t v j) :=
  sum_three (classes_mark v hv) (sum_mark v) (marks_or v t)

end Row

/-! ## The precondition read -/

namespace Spread

open Cert.Pre_spread_KernelIdeal

variable (x : FVec Ideal S512x4096 .f32)

/-- What the sort carries to one of the sixteen places. -/
theorem sort_place (r : Fin 512) (l : Fin 16) :
    (Host.sort2 S512x4096 1 comparator_f32_i32_d1 (Host.negf x) (iotaInDim S512x4096 32 1)).2 (Idealize.ShloMosaic.ix2 r (place l))
      = BitVec.ofNat 32 (chosen (fun k => x (ValueIdx.ix2 r k)) l) := by
  rw [ix2_eq_valueIdx]
  exact sort_row x r (place l)

/-- Equality of two remainders, as the words give it. -/
theorem same_iff (a b : ℕ) (ha : a < 4096) (hb : b < 4096) :
    IntOp.cmpi .eq (IntOp.remsi .host (BitVec.ofNat 32 a) 128#32) (IntOp.remsi .host (BitVec.ofNat 32 b) 128#32) = 1#1 ↔ a % 128 = b % 128 := by
  have e (n : ℕ) (hn : n < 4096) : (IntOp.remsi .host (BitVec.ofNat 32 n) (BitVec.ofNat 32 128)).toNat = n % 128 := by
    have hm : (BitVec.ofNat 32 n).toNat = n := by rw [BitVec.toNat_ofNat]; omega
    rw [IntOp.toNat_remsi .host (by rw [hm]; omega) 128 (by omega) (by omega), hm]
  rw [← e a ha, ← e b hb, BitVec.toNat_inj]
  exact IntOp.cmpi_eq

/-- A count of at most sixteen that the words call at most three is so. -/
theorem count_le (n : ℕ) (hn : n ≤ 16) (h : IntOp.cmpi .sle (BitVec.ofNat 32 n) 3#32 = 1#1) : n ≤ 3 := by
  by_contra hc
  interval_cases n <;> revert h <;> decide

/-- THE PRECONDITION: no place of a row shares its remainder with more than three. -/
theorem spread_row (h : fn x = fun _ => 1#1) (r : Fin 512) (l : Fin 16) :
    (Finset.univ.filter fun k : Fin 16 => chosen (fun k => x (ValueIdx.ix2 r k)) l % 128 = chosen (fun k => x (ValueIdx.ix2 r k)) k % 128).card ≤ 3 := by
  have h1 : fn x (Idealize.ShloMosaic.ix2 r l) = 1#1 := congrFun h _
  pointwise [fn, fn_argsort] at h1
  rw [IndicatorCount.fold_addi_setWidth_eq_card] at h1
  refine (congrArg Finset.card (Finset.filter_congr fun k _ => ?_)).trans_le (count_le _ ((Finset.card_le_univ _).trans_eq (Fintype.card_fin 16)) h1)
  have hl := sort_place x r l
  have hk := sort_place x r k
  unfold place at hl hk
  rw [hl, hk]
  exact (same_iff _ _ (Fin.isLt _) (Fin.isLt _)).symm

end Spread

end Cert.TopK

end
-- ==== Proof.Equation.lean ====
/-
# The equation

Two devices of one row of the mesh hold the two halves of the columns. Each lists its half's largest values, three of
every class at most; under the precondition the two lists reach any value, up to sixteen places, as often as the halves
do, so the merged list's place `l` reaches it exactly when more than `l` of all columns do. So does the reference's.
-/
module

public import proofs.«01_k».proof.Proof.Levels
public import proofs.«01_k».proof.Proof.MergeValue
public import proofs.«01_k».proof.Proof.Reference
public import proofs.«01_k».proof.Proof.Spread

@[expose] public section

noncomputable section

namespace Cert.TopK

open Cert.KernelIdeal Cert.KernelIdeal.Gen
open Idealize.ShloMosaic hiding ix2
open Idealize.ShloMosaic.ValueIdx

variable (X : FVec Ideal Cert.ReferenceIdeal.S512x8192 .f32)

/-- Column `j` of half `k`. -/
def at_half (k : Fin 2) (j : Fin 4096) : Fin 8192 := ⟨k.val * 4096 + j.val, by omega⟩

/-- A block that is half `k` of the columns. -/
def IsHalf (k : Fin 2) (x : FVec Ideal S512x4096 .f32) : Prop := ∀ (r : Fin 512) (j : Fin 4096), x (ix2 r j) = X (ix2 r (at_half k j))

variable {X}

/-- The columns that reach a value in a half are as many as in the block. -/
theorem half_marks {k : Fin 2} {x : FVec Ideal S512x4096 .f32} (h : IsHalf X k x) (t : EReal) (r : Fin 512) :
    ∑ j ∈ Finset.range 4096, marks t (row x r) j = ∑ j ∈ Finset.range 4096, marks t (Ref.line X r) (k.val * 4096 + j) := by
  refine Finset.sum_congr rfl fun j hj => ?_
  have e1 := marks_val t (row x r) ⟨j, Finset.mem_range.1 hj⟩
  have e2 := marks_val t (Ref.line X r) (at_half k ⟨j, Finset.mem_range.1 hj⟩)
  have e3 : row x r ⟨j, Finset.mem_range.1 hj⟩ = Ref.line X r (at_half k ⟨j, Finset.mem_range.1 hj⟩) := h r _
  rw [e3, ← e2] at e1
  exact e1

/-- The two halves are all columns. -/
theorem both_marks {k k' : Fin 2} (hk : k ≠ k') {x y : FVec Ideal S512x4096 .f32} (hx : IsHalf X k x) (hy : IsHalf X k' y) (t : EReal) (r : Fin 512) :
    ∑ j ∈ Finset.range 4096, marks t (row x r) j + ∑ j ∈ Finset.range 4096, marks t (row y r) j
      = ∑ j ∈ Finset.range 8192, marks t (Ref.line X r) j := by
  have e (f : ℕ → ℕ) : ∑ j ∈ Finset.range 8192, f j
      = ∑ j ∈ Finset.range 4096, f (0 * 4096 + j) + ∑ j ∈ Finset.range 4096, f (1 * 4096 + j) := by
    simp only [Nat.zero_mul, Nat.zero_add, Nat.one_mul]
    exact Finset.sum_range_add f 4096 4096
  rw [half_marks hx, half_marks hy, e]
  obtain ⟨rfl, rfl⟩ | ⟨rfl, rfl⟩ : (k = 0 ∧ k' = 1) ∨ (k = 1 ∧ k' = 0) := by omega
  · rfl
  · exact Nat.add_comm _ _

/-- Up to sixteen places, a device's list reaches a value as often as its half does. -/
theorem few_marks (x : FVec Ideal S512x4096 .f32) (h : Cert.Pre_spread_KernelIdeal.fn x = fun _ => 1#1) (t : EReal) (r : Fin 512) :
    min 16 (∑ q ∈ Finset.range 128, few x t r q) = min 16 (∑ j ∈ Finset.range 4096, marks t (row x r) j) :=
  few_sum (row x r) (Spread.spread_row x h r) t

/-- The two reach a value at the same places, -/
theorem same_reach {k k' : Fin 2} (hk : k ≠ k') {x y : FVec Ideal S512x4096 .f32} (hx : IsHalf X k x) (hy : IsHalf X k' y)
    (px : Cert.Pre_spread_KernelIdeal.fn x = fun _ => 1#1) (py : Cert.Pre_spread_KernelIdeal.fn y = fun _ => 1#1)
    (t : EReal) (ht : ⊥ < t) (r : Fin 512) (l : Fin 16) :
    t ≤ merged (cand x) (sent y) (ix2 r l) ↔ t ≤ Ref.result X (ix2 r l) := by
  have hs : sent y = cand y := shapeCast_self (cand y) _
  have hm := merged_reach (cand x) (cand y) r t _ _ (cand_reach x t r ht) (cand_reach y t r ht) l
  have hr := Ref.result_reach X r l t
  rw [← both_marks hk hx hy] at hr
  rw [hs]
  refine hm.trans (Iff.trans ?_ hr.symm)
  have h1 := few_marks x px t r
  have h2 := few_marks y py t r
  have hl : l.val < 16 := l.isLt
  omega

/-- THE EQUATION: the two halves' lists, merged, are the reference's result. -/
theorem merged_eq {k k' : Fin 2} (hk : k ≠ k') {x y : FVec Ideal S512x4096 .f32} (hx : IsHalf X k x) (hy : IsHalf X k' y)
    (px : Cert.Pre_spread_KernelIdeal.fn x = fun _ => 1#1) (py : Cert.Pre_spread_KernelIdeal.fn y = fun _ => 1#1) :
    merged (cand x) (sent y) = Ref.result X := by
  funext i
  rw [ValueIdx.eq_ix2 i]
  exact eq_of_reach fun t ht => same_reach hk hx hy px py t ht (i 0) (i 1)

end Cert.TopK

end
-- ==== Proof.Value.lean ====
/-
# The values of the run

After the run every device's result is the list it merged (`final_result`); the blocks it merged are the two halves of
the columns (`held`), so that the result is the reference's (`value`).
-/
module

public import proofs.«01_k».proof.Proof.Frames
public import proofs.«01_k».proof.Proof.Equation

@[expose] public section

noncomputable section

namespace Cert.TopK

open Cert.KernelIdeal Cert.KernelIdeal.Gen
open Idealize.ShloMosaic hiding ix2
open Idealize.ShloMosaic.ValueIdx
open Idealize.ShloMosaic.TcCoe
open Idealize.SL.Sem

section Run

variable {F : FTy → Type} [FloatOps F] (m : (ℓ : Loc nD τ sig) → Buf (Elt F) ℓ) (ρ : Dev nD → PrngReg)

/-- The block staged is the whole buffer. -/
theorem blockOf_eq (c : Dev nD) : blockOf m ρ c = m ((c : Thread nD τ).loc main_arg0) :=
  Memref.read_access_unit_zero (Elt F) main_arg0 (funext fun a => by fin_cases a <;> decide) (fun a => by fin_cases a <;> decide) _

/-- The result's one block, read back, is what the program left in its staging buffer. -/
theorem result_block (c : Dev nD) : (win0_1.blk (0 : Fin 1)).view.read (Elt F) (finalOf m ρ c (1 : Fin 2)) = resultOf m ρ c := by
  unfold finalOf
  rw [show cfg0.N = ((0 : Fin 1) : Fin cfg0.N).val + 1 from rfl, (dat m ρ 0 c).arrAt_succ (1 : Fin 2) (0 : Fin 1),
    show (cfg0.win (1 : Fin 2)).flush (0 : Fin 1) = true from by decide, if_pos rfl]
  exact View.read_write_univ _ _

/-- A device's result: its own list merged with its peer's. -/
theorem final_result (c : Dev nD) : finalOf m ρ c (1 : Fin 2)
    = merged (cand (m ((c : Thread nD τ).loc main_arg0))) (sent (m ((peer c : Thread nD τ).loc main_arg0))) := by
  have h := result_block m ρ c
  unfold resultOf at h
  rw [blockOf_eq, blockOf_eq] at h
  refine Eq.trans (Eq.symm ?_) h
  exact Memref.read_access_unit_zero (Elt F) main_v1 (funext fun a => by fin_cases a <;> decide) (fun a => by fin_cases a <;> decide) _

end Run

/-- The half of the columns device `c` holds. -/
def halfOf (c : Dev nD) : Fin 2 := ⟨c.val % 2, Nat.mod_lt _ Nat.two_pos⟩

/-- The peer holds the other half. -/
theorem halfOf_peer (c : Dev nD) : halfOf c ≠ halfOf (peer c) := by revert c; decide

/-- What the layout of the mesh gives a device is that half. -/
theorem held (X : FVec Ideal Cert.ReferenceIdeal.S512x8192 .f32) (c : Dev nD) :
    IsHalf X (halfOf c) (Layout.blockN ⟨2, ![512, 4096]⟩ ⟨2, ![512, 8192]⟩ (Layout.meshBlock [2, 2] ![[], [1]] c) X) := by
  intro r j
  rw [Layout.blockN_apply]
  refine congrArg X (funext fun a => Fin.ext ?_)
  rw [Layout.TilesN.idx_val, Layout.meshBlock_val]
  match a with
  | ⟨0, _⟩ => exact (congrArg (· + r.val) (Nat.zero_mul 512)).trans (Nat.zero_add _)
  | ⟨1, _⟩ =>
    show Layout.meshLin [2, 2] c.val [1] * 4096 + j.val = c.val % 2 * 4096 + j.val
    have e : Layout.meshLin [2, 2] c.val [1] = c.val % 2 := by revert c; decide
    rw [e]

/-- THE VALUE CLAIM: under the precondition every device's result is the reference's, at exact numbers. -/
theorem value : Cert.algebraic_KernelIdeal_ReferenceIdeal_pre_spread_KernelIdeal (hKernelIdeal := Cert.KernelIdeal.Gen.facts)
    (hReferenceIdeal := Cert.ReferenceIdeal.Gen.facts) (hPre_spread_KernelIdeal := spread_facts) := by
  intro m ρ m' ρ' hpre hagree
  refine ⟨Ref.result (m' (((0 : Dev Cert.ReferenceIdeal.nD).tc : Thread Cert.ReferenceIdeal.nD Cert.ReferenceIdeal.τ).loc Cert.ReferenceIdeal.main_arg0)), ?_, ?_⟩
  · refine (θ_run defs _ _).mono (fun _ h c => ⟨(h.1 c (1 : Fin 2)).trans ?_, (h.1 c (0 : Fin 2)).trans (finalOf_x m ρ c)⟩) (run_main (F := Ideal) m ρ)
    refine (final_result m ρ c).trans (merged_eq (halfOf_peer c) ?_ ?_ (hpre c) (hpre (peer c)))
    · have h := held (m' (((0 : Dev Cert.ReferenceIdeal.nD).tc : Thread Cert.ReferenceIdeal.nD Cert.ReferenceIdeal.τ).loc Cert.ReferenceIdeal.main_arg0)) c
      rw [← hagree c] at h
      exact h
    · have h := held (m' (((0 : Dev Cert.ReferenceIdeal.nD).tc : Thread Cert.ReferenceIdeal.nD Cert.ReferenceIdeal.τ).loc Cert.ReferenceIdeal.main_arg0)) (peer c)
      rw [← hagree (peer c)] at h
      exact h
  · exact (θ_run Cert.ReferenceIdeal.defs _ _).mono (fun _ h => h 0) (Cert.ReferenceIdeal.Value.run (F := Ideal) m' ρ')

end Cert.TopK

end
-- ==== Proof.Need.lean ====
/-
# The precondition is needed

Without it the equation fails. The array `four` is zero but for four ones, in row 0 at columns 0, 128, 256 and 384, all in
one class of the first half. The reference's place 3 of row 0 holds a one; the kernel kept three of the four, so that its
place 3 does not reach one (`needed`).
-/
module

public import proofs.«01_k».proof.Proof.Equation

@[expose] public section

noncomputable section

namespace Cert.TopK

open Cert.KernelIdeal Cert.KernelIdeal.Gen
open Idealize.ShloMosaic hiding ix2
open Idealize.ShloMosaic.ValueIdx

/-- Where the ones stand in row 0. -/
def isOne (j : ℕ) : Prop := j < 512 ∧ j % 128 = 0

/-- It can be decided. -/
instance (j : ℕ) : Decidable (isOne j) := inferInstanceAs (Decidable (_ ∧ _))

/-- An array that is one in row 0 where `p` says so and zero elsewhere. -/
def ones {n : ℕ} (p : ℕ → Prop) [DecidablePred p] : FVec Ideal ⟨2, ![512, n]⟩ .f32 := fun i =>
  if (i 0).val = 0 ∧ p (i 1).val then (1 : EReal) else (0 : EReal)

/-- The counterexample, -/
def four : FVec Ideal Cert.ReferenceIdeal.S512x8192 .f32 := ones isOne
/-- its first half -/
def fourLeft : FVec Ideal S512x4096 .f32 := ones isOne
/-- and its second. -/
def fourRight : FVec Ideal S512x4096 .f32 := ones fun _ => False

/-- The one is indeed the first half of the counterexample, -/
theorem fourLeft_half : IsHalf four 0 fourLeft := fun r j => by
  show (if r.val = 0 ∧ isOne j.val then (1 : EReal) else 0) = if r.val = 0 ∧ isOne (0 * 4096 + j.val) then (1 : EReal) else 0
  rw [Nat.zero_mul, Nat.zero_add]

/-- and the other the second. -/
theorem fourRight_half : IsHalf four 1 fourRight := fun r j => by
  show (if r.val = 0 ∧ False then (1 : EReal) else 0) = if r.val = 0 ∧ isOne (1 * 4096 + j.val) then (1 : EReal) else 0
  rw [if_neg (fun h => h.2), if_neg (fun h => by have := h.2.1; omega)]

/-- A column of row 0 reaches one where `p` says so. -/
theorem one_reach (p : ℕ → Prop) [DecidablePred p] (j : ℕ) : (1 : EReal) ≤ (if (0 : ℕ) = 0 ∧ p j then (1 : EReal) else 0) ↔ p j := by
  by_cases h : p j
  · rw [if_pos ⟨rfl, h⟩]
    exact ⟨fun _ => h, fun _ => le_refl _⟩
  · rw [if_neg fun hp => h hp.2]
    exact ⟨fun h1 => absurd h1 (not_le_of_gt zero_lt_one), fun hp => absurd hp h⟩

/-- The reference's row has at least four. -/
theorem four_marks : 3 < ∑ j ∈ Finset.range 8192, marks (1 : EReal) (Ref.line four 0) j := by
  have e : ((Finset.range 4).image fun k => 128 * k).card = 4 := by decide
  have hs : ∑ j ∈ (Finset.range 4).image (fun k => 128 * k), marks (1 : EReal) (Ref.line four 0) j = 4 := by
    rw [← e, Finset.card_eq_sum_ones]
    refine Finset.sum_congr rfl fun j hj => ?_
    obtain ⟨k, hk, rfl⟩ := Finset.mem_image.1 hj
    have hk4 := Finset.mem_range.1 hk
    have h := marks_val (1 : EReal) (Ref.line four 0) ⟨128 * k, by omega⟩
    have hle : (1 : EReal) ≤ Ref.line four 0 ⟨128 * k, by omega⟩ := (one_reach isOne (128 * k)).2 ⟨by omega, by omega⟩
    exact h.trans (congrArg Bool.toNat (decide_eq_true hle))
  have hsub : (Finset.range 4).image (fun k => 128 * k) ⊆ Finset.range 8192 := fun j hj => by
    obtain ⟨k, hk, rfl⟩ := Finset.mem_image.1 hj
    have := Finset.mem_range.1 hk
    exact Finset.mem_range.2 (by omega)
  exact (show 3 < 4 by omega).trans_le (hs.symm.le.trans (Finset.sum_le_sum_of_subset hsub))

/-- A class none of whose columns is marked counts nothing. -/
theorem few_zero (p : ℕ → Prop) [DecidablePred p] (q : ℕ) (h : ∀ m, m < 32 → ¬ p (128 * m + q)) :
    few (ones (n := 4096) p) 1 0 q = 0 := by
  have hc : classes (col (ones (n := 4096) p) 1 0) q = 0 := by
    rw [classes_eq]
    refine Finset.sum_eq_zero fun m hm => ?_
    unfold col marks
    split
    · exact congrArg Bool.toNat (decide_eq_false fun hr => h m (Finset.mem_range.1 hm) ((one_reach p _).1 hr))
    · rfl
  unfold few
  rw [hc]
  rfl

/-- WITHOUT THE PRECONDITION the kernel's result is not the reference's. -/
theorem needed : merged (cand fourLeft) (sent fourRight) ≠ Ref.result four := by
  intro heq
  have hs : sent fourRight = cand fourRight := shapeCast_self (cand fourRight) _
  rw [hs] at heq
  have ht : (⊥ : EReal) < 1 := EReal.bot_lt_coe 1
  have hm := merged_reach (cand fourLeft) (cand fourRight) 0 1 _ _ (cand_reach fourLeft 1 0 ht) (cand_reach fourRight 1 0 ht) 3
  have hr := (Ref.result_reach four 0 3 1).2 four_marks
  rw [← heq] at hr
  have h := hm.1 hr
  have hl : ∑ q ∈ Finset.range 128, few fourLeft 1 0 q = few fourLeft 1 0 0 :=
    Finset.sum_eq_single 0 (fun q hq h0 => few_zero isOne q fun m _ hp => h0 (by
      have := hp.2
      have := Finset.mem_range.1 hq
      omega)) fun h0 => absurd (Finset.mem_range.2 (by omega)) h0
  have hrt : ∑ q ∈ Finset.range 128, few fourRight 1 0 q = 0 :=
    Finset.sum_eq_zero fun q _ => few_zero (fun _ => False) q fun _ _ hp => hp
  have h3 : few fourLeft 1 0 0 ≤ 3 := Nat.min_le_left _ _
  rw [hl, hrt] at h
  have : (3 : ℕ) < few fourLeft 1 0 0 + 0 := h
  omega

end Cert.TopK

end
-- ==== Proof.lean ====
/-
# The certificate

The kernel runs on its four devices and leaves its argument as it was, as printed and idealized; so does the
reference; the idealized kernel is the printed one, no operation rewritten; and at exact numbers, under the
precondition `spread` on every device's block, every device's result is the reference's. That the equation fails
without it is `needed` in `Need`.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Frames
public import proofs.«01_k».proof.Proof.Value
public import proofs.«01_k».proof.Proof.Need
public import Idealize.ShloMosaic.Adequacy
public import Idealize.ShloMosaic.Init

@[expose] public section

noncomputable section

namespace Cert.Proof

open Cert.TopK

/-- The side conditions of the precondition read of a whole array. -/
theorem whole_facts : Cert.Pre_spread_ReferenceIdeal.Facts where
  slices_S512x8192_S512x16_0_0 := by decide
  bcast_S_S512x16 := by decide
  bcast_S512x16_S512x16x1_0_1 := by decide
  bcast_S512x16_S512x1x16_0_2 := by decide
  bcast_S512x16x1_S512x16x16_0_1_2 := by decide
  bcast_S512x1x16_S512x16x16_0_1_2 := by decide
  natLt_1_32 := by decide
  reducesTo_S512x16x16_S512x16_d2 := by decide
  h_S_ := by decide

/-- All that is claimed. The frames under the precondition are the frames. -/
theorem claim : Cert.Claim := ⟨Cert.Kernel.Gen.facts, Cert.KernelIdeal.Gen.facts, Cert.ReferenceIdeal.Gen.facts, spread_facts, whole_facts,
  frame_kernel, frame_ideal, fun m ρ _ => frame_ideal m ρ trivial, frame_reference, fun m ρ _ => frame_reference m ρ trivial, trivial, value⟩

end Cert.Proof

end
